-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v17) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S2x4x32x32x32 : Shape := ⟨5, ![2, 4, 32, 32, 32]⟩
abbrev S32x256 : Shape := ⟨2, ![32, 256]⟩
abbrev S196608x256 : Shape := ⟨2, ![196608, 256]⟩
abbrev S128x256 : Shape := ⟨2, ![128, 256]⟩
abbrev S2048x256 : Shape := ⟨2, ![2048, 256]⟩
abbrev S_ : Shape := ⟨0, ![]⟩
abbrev S1x16 : Shape := ⟨2, ![1, 16]⟩
abbrev S16 : Shape := ⟨1, ![16]⟩
abbrev S1024x256 : Shape := ⟨2, ![1024, 256]⟩
abbrev S2x3x32x32x32x256 : Shape := ⟨6, ![2, 3, 32, 32, 32, 256]⟩

abbrev nBuf : Table → Nat
  | .hbm => 6
  | .shared => 1
  | .local .scVector .vmem => 5
  | _ => 0

abbrev bufTy : (tb : Table) → Fin (nBuf tb) → BufTy
  | .hbm, ⟨0, _⟩ => ⟨S2x4x32x32x32, .f32⟩
  | .hbm, ⟨1, _⟩ => ⟨S32x256, .f32⟩
  | .hbm, ⟨2, _⟩ => ⟨S32x256, .f32⟩
  | .hbm, ⟨3, _⟩ => ⟨S32x256, .f32⟩
  | .hbm, ⟨4, _⟩ => ⟨S196608x256, .f32⟩
  | .hbm, ⟨5, _⟩ => ⟨S2x3x32x32x32x256, .f32⟩
  | .shared, ⟨0, _⟩ => ⟨S2048x256, .f32⟩
  | .local .scVector .vmem, ⟨0, _⟩ => ⟨S32x256, .f32⟩
  | .local .scVector .vmem, ⟨1, _⟩ => ⟨S32x256, .f32⟩
  | .local .scVector .vmem, ⟨2, _⟩ => ⟨S32x256, .f32⟩
  | .local .scVector .vmem, ⟨3, _⟩ => ⟨S128x256, .f32⟩
  | .local .scVector .vmem, ⟨4, _⟩ => ⟨S128x256, .f32⟩
  | _, _ => ⟨S2x4x32x32x32, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 5 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_scv : Ref sig .scVector := ⟨.hbm, 4, rfl⟩
abbrev cc0_scratch5 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : Index := Scalar.indexCast v1
  let c0 : Index := 0#32
  ![v2.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v5 : Index := Scalar.indexCast v1
  let c16 : Index := 16#32
  ![v5.toNat, 16]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v8 : Index := Scalar.indexCast v1
  let c32 : Index := 32#32
  ![v8.toNat, 32]
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v11 : Index := Scalar.indexCast v1
  let c48 : Index := 48#32
  ![v11.toNat, 48]
def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v14 : Index := Scalar.indexCast v1
  let c64 : Index := 64#32
  ![v14.toNat, 64]
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v17 : Index := Scalar.indexCast v1
  let c80 : Index := 80#32
  ![v17.toNat, 80]
def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v20 : Index := Scalar.indexCast v1
  let c96 : Index := 96#32
  ![v20.toNat, 96]
def k0_off8 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v23 : Index := Scalar.indexCast v1
  let c112 : Index := 112#32
  ![v23.toNat, 112]
def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v26 : Index := Scalar.indexCast v1
  let c128 : Index := 128#32
  ![v26.toNat, 128]
def k0_off10 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v29 : Index := Scalar.indexCast v1
  let c144 : Index := 144#32
  ![v29.toNat, 144]
def k0_off11 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v32 : Index := Scalar.indexCast v1
  let c160 : Index := 160#32
  ![v32.toNat, 160]
def k0_off12 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v35 : Index := Scalar.indexCast v1
  let c176 : Index := 176#32
  ![v35.toNat, 176]
def k0_off13 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v38 : Index := Scalar.indexCast v1
  let c192 : Index := 192#32
  ![v38.toNat, 192]
def k0_off14 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v41 : Index := Scalar.indexCast v1
  let c208 : Index := 208#32
  ![v41.toNat, 208]
def k0_off15 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v44 : Index := Scalar.indexCast v1
  let c224 : Index := 224#32
  ![v44.toNat, 224]
def k0_off16 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v47 : Index := Scalar.indexCast v1
  let c240 : Index := 240#32
  ![v47.toNat, 240]
@[reducible] def k0_t1_loop : Scf.Loop 32 :=
  let c0_i32_0 : BitVec 32 := 0#32
  let c128_i32 : BitVec 32 := 128#32
  let v50 : BitVec 32 := Scalar.addi c0_i32_0 c128_i32
  let c1_i32 : BitVec 32 := 1#32
  ⟨c0_i32_0, v50, c1_i32⟩
def k0_off17 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v84 : Index := Scalar.indexCast arg14
  let c0_46 : Index := 0#32
  ![v84.toNat, 0]
def k0_off18 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v88 : Index := Scalar.indexCast arg14
  let c16_47 : Index := 16#32
  ![v88.toNat, 16]
def k0_off19 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v92 : Index := Scalar.indexCast arg14
  let c32_48 : Index := 32#32
  ![v92.toNat, 32]
def k0_off20 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v96 : Index := Scalar.indexCast arg14
  let c48_49 : Index := 48#32
  ![v96.toNat, 48]
def k0_off21 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v100 : Index := Scalar.indexCast arg14
  let c64_50 : Index := 64#32
  ![v100.toNat, 64]
def k0_off22 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v104 : Index := Scalar.indexCast arg14
  let c80_51 : Index := 80#32
  ![v104.toNat, 80]
def k0_off23 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v108 : Index := Scalar.indexCast arg14
  let c96_52 : Index := 96#32
  ![v108.toNat, 96]
def k0_off24 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v112 : Index := Scalar.indexCast arg14
  let c112_53 : Index := 112#32
  ![v112.toNat, 112]
def k0_off25 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v116 : Index := Scalar.indexCast arg14
  let c128_54 : Index := 128#32
  ![v116.toNat, 128]
def k0_off26 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v120 : Index := Scalar.indexCast arg14
  let c144_55 : Index := 144#32
  ![v120.toNat, 144]
def k0_off27 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v124 : Index := Scalar.indexCast arg14
  let c160_56 : Index := 160#32
  ![v124.toNat, 160]
def k0_off28 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v128 : Index := Scalar.indexCast arg14
  let c176_57 : Index := 176#32
  ![v128.toNat, 176]
def k0_off29 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v132 : Index := Scalar.indexCast arg14
  let c192_58 : Index := 192#32
  ![v132.toNat, 192]
def k0_off30 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v136 : Index := Scalar.indexCast arg14
  let c208_59 : Index := 208#32
  ![v136.toNat, 208]
def k0_off31 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v140 : Index := Scalar.indexCast arg14
  let c224_60 : Index := 224#32
  ![v140.toNat, 224]
def k0_off32 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v144 : Index := Scalar.indexCast arg14
  let c240_61 : Index := 240#32
  ![v144.toNat, 240]
@[reducible] def k0_t2_loop : Scf.Loop 32 :=
  let c0_i32_3 : BitVec 32 := 0#32
  let c16_i32 : BitVec 32 := 16#32
  let v52 : BitVec 32 := Scalar.addi c0_i32_3 c16_i32
  let c1_i32_4 : BitVec 32 := 1#32
  ⟨c0_i32_3, v52, c1_i32_4⟩
def k0_off33 (i : grid0.Coords) (k0_t2 : Fin k0_t2_loop.trips) : Fin 2 → Nat :=
  let c0_i32_3 : BitVec 32 := 0#32
  let c1_i32_4 : BitVec 32 := 1#32
  let arg14 : BitVec 32 := Scf.iv c0_i32_3 c1_i32_4 k0_t2
  let c0_i32_47 : BitVec 32 := 0#32
  let v85 : BitVec 1 := Scalar.cmpi .sgt arg14 c0_i32_47
  let v86 : BitVec 32 := Scalar.extui v85
  let c0_i32_48 : BitVec 32 := 0#32
  let v87 : BitVec 1 := Scalar.cmpi .slt arg14 c0_i32_48
  let v88 : BitVec 32 := Scalar.extui v87
  let v89 : BitVec 32 := Scalar.subi v86 v88
  let c8_i32_46 : BitVec 32 := 8#32
  let c0_i32_49 : BitVec 32 := 0#32
  let v90 : BitVec 1 := Scalar.cmpi .sgt c8_i32_46 c0_i32_49
  let v91 : BitVec 32 := Scalar.extui v90
  let c0_i32_50 : BitVec 32 := 0#32
  let v92 : BitVec 1 := Scalar.cmpi .slt c8_i32_46 c0_i32_50
  let v93 : BitVec 32 := Scalar.extui v92
  let v94 : BitVec 32 := Scalar.subi v91 v93
  let v95 : BitVec 1 := Scalar.cmpi .ne v89 v94
  let v96 : BitVec 32 := Scalar.remsi arg14 c8_i32_46
  let c0_i32_51 : BitVec 32 := 0#32
  let v97 : BitVec 1 := Scalar.cmpi .ne v96 c0_i32_51
  let v98 : BitVec 1 := Scalar.andi v95 v97
  let v84 : BitVec 32 := Scalar.divsi arg14 c8_i32_46
  let c1_i32_52 : BitVec 32 := 1#32
  let v99 : BitVec 32 := Scalar.subi v84 c1_i32_52
  let v100 : BitVec 32 := Scalar.select v98 v99 v84
  let c3_i32 : BitVec 32 := 3#32
  let v102 : BitVec 32 := Scalar.muli v100 c3_i32
  let c32_i32_54 : BitVec 32 := 32#32
  let v103 : BitVec 32 := Scalar.muli v102 c32_i32_54
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v104 : BitVec 32 := Scalar.addi v103 v1
  let c1024_i32_55 : BitVec 32 := 1024#32
  let v105 : BitVec 32 := Scalar.muli v104 c1024_i32_55
  let c8_i32_53 : BitVec 32 := 8#32
  let v101 : BitVec 32 := Scalar.remsi arg14 c8_i32_53
  let c128_i32_56 : BitVec 32 := 128#32
  let v106 : BitVec 32 := Scalar.muli v101 c128_i32_56
  let v107 : BitVec 32 := Scalar.addi v105 v106
  let c0_i32_57 : BitVec 32 := 0#32
  ![v107.toNat, 0]
def k0_cond1 (i : grid0.Coords) : BitVec 1 :=
  let arg1 : BitVec 32 := BitVec.ofNat 32 (i 1).val
  let c8_i32 : BitVec 32 := 8#32
  let v54 : BitVec 1 := Scalar.cmpi .slt arg1 c8_i32
  let v55 : BitVec 32 := Scalar.extui v54
  let c0_i32_6 : BitVec 32 := 0#32
  let v56 : BitVec 1 := Scalar.cmpi .ne v55 c0_i32_6
  v56

@[reducible] def k0_t3_loop : Scf.Loop 32 :=
  let c0_i32_47 : BitVec 32 := 0#32
  let c128_i32_48 : BitVec 32 := 128#32
  let v84 : BitVec 32 := Scalar.addi c0_i32_47 c128_i32_48
  let c1_i32_49 : BitVec 32 := 1#32
  ⟨c0_i32_47, v84, c1_i32_49⟩
def k0_off34 (i : grid0.Coords) (k0_t3 : Fin k0_t3_loop.trips) : Fin 2 → Nat :=
  let arg1 : BitVec 32 := BitVec.ofNat 32 (i 1).val
  let c4_i32 : BitVec 32 := 4#32
  let v86 : BitVec 32 := Scalar.muli arg1 c4_i32
  let c0_i32_47 : BitVec 32 := 0#32
  let c1_i32_49 : BitVec 32 := 1#32
  let arg14 : BitVec 32 := Scf.iv c0_i32_47 c1_i32_49 k0_t3
  let c5_i32 : BitVec 32 := 5#32
  let v87 : BitVec 32 := Scalar.shrui arg14 c5_i32
  let v88 : BitVec 32 := Scalar.addi v86 v87
  let v89 : Index := Scalar.indexCast v88
  let c0_51 : Index := 0#32
  ![v89.toNat, 0]
def k0_off35 (k0_t3 : Fin k0_t3_loop.trips) : Fin 2 → Nat :=
  let c0_i32_47 : BitVec 32 := 0#32
  let c1_i32_49 : BitVec 32 := 1#32
  let arg14 : BitVec 32 := Scf.iv c0_i32_47 c1_i32_49 k0_t3
  let v92 : Index := Scalar.indexCast arg14
  let c0_52 : Index := 0#32
  ![v92.toNat, 0]
def k0_off36 (i : grid0.Coords) (k0_t3 : Fin k0_t3_loop.trips) : Fin 2 → Nat :=
  let arg1 : BitVec 32 := BitVec.ofNat 32 (i 1).val
  let c4_i32 : BitVec 32 := 4#32
  let v86 : BitVec 32 := Scalar.muli arg1 c4_i32
  let c0_i32_47 : BitVec 32 := 0#32
  let c1_i32_49 : BitVec 32 := 1#32
  let arg14 : BitVec 32 := Scf.iv c0_i32_47 c1_i32_49 k0_t3
  let c5_i32 : BitVec 32 := 5#32
  let v87 : BitVec 32 := Scalar.shrui arg14 c5_i32
  let v88 : BitVec 32 := Scalar.addi v86 v87
  let v96 : Index := Scalar.indexCast v88
  let c16_53 : Index := 16#32
  ![v96.toNat, 16]
def k0_off37 (k0_t3 : Fin k0_t3_loop.trips) : Fin 2 → Nat :=
  let c0_i32_47 : BitVec 32 := 0#32
  let c1_i32_49 : BitVec 32 := 1#32
  let arg14 : BitVec 32 := Scf.iv c0_i32_47 c1_i32_49 k0_t3
  let v99 : Index := Scalar.indexCast arg14
  let c16_54 : Index := 16#32
  ![v99.toNat, 16]
def k0_off38 (i : grid0.Coords) (k0_t3 : Fin k0_t3_loop.trips) : Fin 2 → Nat :=
  let arg1 : BitVec 32 := BitVec.ofNat 32 (i 1).val
  let c4_i32 : BitVec 32 := 4#32
  let v86 : BitVec 32 := Scalar.muli arg1 c4_i32
  let c0_i32_47 : BitVec 32 := 0#32
  let c1_i32_49 : BitVec 32 := 1#32
  let arg14 : BitVec 32 := Scf.iv c0_i32_47 c1_i32_49 k0_t3
  let c5_i32 : BitVec 32 := 5#32
  let v87 : BitVec 32 := Scalar.shrui arg14 c5_i32
  let v88 : BitVec 32 := Scalar.addi v86 v87
  let v103 : Index := Scalar.indexCast v88
  let c32_55 : Index := 32#32
  ![v103.toNat, 32]
def k0_off39 (k0_t3 : Fin k0_t3_loop.trips) : Fin 2 → Nat :=
  let c0_i32_47 : BitVec 32 := 0#32
  let c1_i32_49 : BitVec 32 := 1#32
  let arg14 : BitVec 32 := Scf.iv c0_i32_47 c1_i32_49 k0_t3
  let v106 : Index := Scalar.indexCast arg14
  let c32_56 : Index := 32#32
  ![v106.toNat, 32]
def k0_off40 (i : grid0.Coords) (k0_t3 : Fin k0_t3_loop.trips) : Fin 2 → Nat :=
  let arg1 : BitVec 32 := BitVec.ofNat 32 (i 1).val
  let c4_i32 : BitVec 32 := 4#32
  let v86 : BitVec 32 := Scalar.muli arg1 c4_i32
  let c0_i32_47 : BitVec 32 := 0#32
  let c1_i32_49 : BitVec 32 := 1#32
  let arg14 : BitVec 32 := Scf.iv c0_i32_47 c1_i32_49 k0_t3
  let c5_i32 : BitVec 32 := 5#32
  let v87 : BitVec 32 := Scalar.shrui arg14 c5_i32
  let v88 : BitVec 32 := Scalar.addi v86 v87
  let v110 : Index := Scalar.indexCast v88
  let c48_57 : Index := 48#32
  ![v110.toNat, 48]
def k0_off41 (k0_t3 : Fin k0_t3_loop.trips) : Fin 2 → Nat :=
  let c0_i32_47 : BitVec 32 := 0#32
  let c1_i32_49 : BitVec 32 := 1#32
  let arg14 : BitVec 32 := Scf.iv c0_i32_47 c1_i32_49 k0_t3
  let v113 : Index := Scalar.indexCast arg14
  let c48_58 : Index := 48#32
  ![v113.toNat, 48]
def k0_off42 (i : grid0.Coords) (k0_t3 : Fin k0_t3_loop.trips) : Fin 2 → Nat :=
  let arg1 : BitVec 32 := BitVec.ofNat 32 (i 1).val
  let c4_i32 : BitVec 32 := 4#32
  let v86 : BitVec 32 := Scalar.muli arg1 c4_i32
  let c0_i32_47 : BitVec 32 := 0#32
  let c1_i32_49 : BitVec 32 := 1#32
  let arg14 : BitVec 32 := Scf.iv c0_i32_47 c1_i32_49 k0_t3
  let c5_i32 : BitVec 32 := 5#32
  let v87 : BitVec 32 := Scalar.shrui arg14 c5_i32
  let v88 : BitVec 32 := Scalar.addi v86 v87
  let v117 : Index := Scalar.indexCast v88
  let c64_59 : Index := 64#32
  ![v117.toNat, 64]
def k0_off43 (k0_t3 : Fin k0_t3_loop.trips) : Fin 2 → Nat :=
  let c0_i32_47 : BitVec 32 := 0#32
  let c1_i32_49 : BitVec 32 := 1#32
  let arg14 : BitVec 32 := Scf.iv c0_i32_47 c1_i32_49 k0_t3
  let v120 : Index := Scalar.indexCast arg14
  let c64_60 : Index := 64#32
  ![v120.toNat, 64]
def k0_off44 (i : grid0.Coords) (k0_t3 : Fin k0_t3_loop.trips) : Fin 2 → Nat :=
  let arg1 : BitVec 32 := BitVec.ofNat 32 (i 1).val
  let c4_i32 : BitVec 32 := 4#32
  let v86 : BitVec 32 := Scalar.muli arg1 c4_i32
  let c0_i32_47 : BitVec 32 := 0#32
  let c1_i32_49 : BitVec 32 := 1#32
  let arg14 : BitVec 32 := Scf.iv c0_i32_47 c1_i32_49 k0_t3
  let c5_i32 : BitVec 32 := 5#32
  let v87 : BitVec 32 := Scalar.shrui arg14 c5_i32
  let v88 : BitVec 32 := Scalar.addi v86 v87
  let v124 : Index := Scalar.indexCast v88
  let c80_61 : Index := 80#32
  ![v124.toNat, 80]
def k0_off45 (k0_t3 : Fin k0_t3_loop.trips) : Fin 2 → Nat :=
  let c0_i32_47 : BitVec 32 := 0#32
  let c1_i32_49 : BitVec 32 := 1#32
  let arg14 : BitVec 32 := Scf.iv c0_i32_47 c1_i32_49 k0_t3
  let v127 : Index := Scalar.indexCast arg14
  let c80_62 : Index := 80#32
  ![v127.toNat, 80]
def k0_off46 (i : grid0.Coords) (k0_t3 : Fin k0_t3_loop.trips) : Fin 2 → Nat :=
  let arg1 : BitVec 32 := BitVec.ofNat 32 (i 1).val
  let c4_i32 : BitVec 32 := 4#32
  let v86 : BitVec 32 := Scalar.muli arg1 c4_i32
  let c0_i32_47 : BitVec 32 := 0#32
  let c1_i32_49 : BitVec 32 := 1#32
  let arg14 : BitVec 32 := Scf.iv c0_i32_47 c1_i32_49 k0_t3
  let c5_i32 : BitVec 32 := 5#32
  let v87 : BitVec 32 := Scalar.shrui arg14 c5_i32
  let v88 : BitVec 32 := Scalar.addi v86 v87
  let v131 : Index := Scalar.indexCast v88
  let c96_63 : Index := 96#32
  ![v131.toNat, 96]
def k0_off47 (k0_t3 : Fin k0_t3_loop.trips) : Fin 2 → Nat :=
  let c0_i32_47 : BitVec 32 := 0#32
  let c1_i32_49 : BitVec 32 := 1#32
  let arg14 : BitVec 32 := Scf.iv c0_i32_47 c1_i32_49 k0_t3
  let v134 : Index := Scalar.indexCast arg14
  let c96_64 : Index := 96#32
  ![v134.toNat, 96]
def k0_off48 (i : grid0.Coords) (k0_t3 : Fin k0_t3_loop.trips) : Fin 2 → Nat :=
  let arg1 : BitVec 32 := BitVec.ofNat 32 (i 1).val
  let c4_i32 : BitVec 32 := 4#32
  let v86 : BitVec 32 := Scalar.muli arg1 c4_i32
  let c0_i32_47 : BitVec 32 := 0#32
  let c1_i32_49 : BitVec 32 := 1#32
  let arg14 : BitVec 32 := Scf.iv c0_i32_47 c1_i32_49 k0_t3
  let c5_i32 : BitVec 32 := 5#32
  let v87 : BitVec 32 := Scalar.shrui arg14 c5_i32
  let v88 : BitVec 32 := Scalar.addi v86 v87
  let v138 : Index := Scalar.indexCast v88
  let c112_65 : Index := 112#32
  ![v138.toNat, 112]
def k0_off49 (k0_t3 : Fin k0_t3_loop.trips) : Fin 2 → Nat :=
  let c0_i32_47 : BitVec 32 := 0#32
  let c1_i32_49 : BitVec 32 := 1#32
  let arg14 : BitVec 32 := Scf.iv c0_i32_47 c1_i32_49 k0_t3
  let v141 : Index := Scalar.indexCast arg14
  let c112_66 : Index := 112#32
  ![v141.toNat, 112]
def k0_off50 (i : grid0.Coords) (k0_t3 : Fin k0_t3_loop.trips) : Fin 2 → Nat :=
  let arg1 : BitVec 32 := BitVec.ofNat 32 (i 1).val
  let c4_i32 : BitVec 32 := 4#32
  let v86 : BitVec 32 := Scalar.muli arg1 c4_i32
  let c0_i32_47 : BitVec 32 := 0#32
  let c1_i32_49 : BitVec 32 := 1#32
  let arg14 : BitVec 32 := Scf.iv c0_i32_47 c1_i32_49 k0_t3
  let c5_i32 : BitVec 32 := 5#32
  let v87 : BitVec 32 := Scalar.shrui arg14 c5_i32
  let v88 : BitVec 32 := Scalar.addi v86 v87
  let v145 : Index := Scalar.indexCast v88
  let c128_67 : Index := 128#32
  ![v145.toNat, 128]
def k0_off51 (k0_t3 : Fin k0_t3_loop.trips) : Fin 2 → Nat :=
  let c0_i32_47 : BitVec 32 := 0#32
  let c1_i32_49 : BitVec 32 := 1#32
  let arg14 : BitVec 32 := Scf.iv c0_i32_47 c1_i32_49 k0_t3
  let v148 : Index := Scalar.indexCast arg14
  let c128_68 : Index := 128#32
  ![v148.toNat, 128]
def k0_off52 (i : grid0.Coords) (k0_t3 : Fin k0_t3_loop.trips) : Fin 2 → Nat :=
  let arg1 : BitVec 32 := BitVec.ofNat 32 (i 1).val
  let c4_i32 : BitVec 32 := 4#32
  let v86 : BitVec 32 := Scalar.muli arg1 c4_i32
  let c0_i32_47 : BitVec 32 := 0#32
  let c1_i32_49 : BitVec 32 := 1#32
  let arg14 : BitVec 32 := Scf.iv c0_i32_47 c1_i32_49 k0_t3
  let c5_i32 : BitVec 32 := 5#32
  let v87 : BitVec 32 := Scalar.shrui arg14 c5_i32
  let v88 : BitVec 32 := Scalar.addi v86 v87
  let v152 : Index := Scalar.indexCast v88
  let c144_69 : Index := 144#32
  ![v152.toNat, 144]
def k0_off53 (k0_t3 : Fin k0_t3_loop.trips) : Fin 2 → Nat :=
  let c0_i32_47 : BitVec 32 := 0#32
  let c1_i32_49 : BitVec 32 := 1#32
  let arg14 : BitVec 32 := Scf.iv c0_i32_47 c1_i32_49 k0_t3
  let v155 : Index := Scalar.indexCast arg14
  let c144_70 : Index := 144#32
  ![v155.toNat, 144]
def k0_off54 (i : grid0.Coords) (k0_t3 : Fin k0_t3_loop.trips) : Fin 2 → Nat :=
  let arg1 : BitVec 32 := BitVec.ofNat 32 (i 1).val
  let c4_i32 : BitVec 32 := 4#32
  let v86 : BitVec 32 := Scalar.muli arg1 c4_i32
  let c0_i32_47 : BitVec 32 := 0#32
  let c1_i32_49 : BitVec 32 := 1#32
  let arg14 : BitVec 32 := Scf.iv c0_i32_47 c1_i32_49 k0_t3
  let c5_i32 : BitVec 32 := 5#32
  let v87 : BitVec 32 := Scalar.shrui arg14 c5_i32
  let v88 : BitVec 32 := Scalar.addi v86 v87
  let v159 : Index := Scalar.indexCast v88
  let c160_71 : Index := 160#32
  ![v159.toNat, 160]
def k0_off55 (k0_t3 : Fin k0_t3_loop.trips) : Fin 2 → Nat :=
  let c0_i32_47 : BitVec 32 := 0#32
  let c1_i32_49 : BitVec 32 := 1#32
  let arg14 : BitVec 32 := Scf.iv c0_i32_47 c1_i32_49 k0_t3
  let v162 : Index := Scalar.indexCast arg14
  let c160_72 : Index := 160#32
  ![v162.toNat, 160]
def k0_off56 (i : grid0.Coords) (k0_t3 : Fin k0_t3_loop.trips) : Fin 2 → Nat :=
  let arg1 : BitVec 32 := BitVec.ofNat 32 (i 1).val
  let c4_i32 : BitVec 32 := 4#32
  let v86 : BitVec 32 := Scalar.muli arg1 c4_i32
  let c0_i32_47 : BitVec 32 := 0#32
  let c1_i32_49 : BitVec 32 := 1#32
  let arg14 : BitVec 32 := Scf.iv c0_i32_47 c1_i32_49 k0_t3
  let c5_i32 : BitVec 32 := 5#32
  let v87 : BitVec 32 := Scalar.shrui arg14 c5_i32
  let v88 : BitVec 32 := Scalar.addi v86 v87
  let v166 : Index := Scalar.indexCast v88
  let c176_73 : Index := 176#32
  ![v166.toNat, 176]
def k0_off57 (k0_t3 : Fin k0_t3_loop.trips) : Fin 2 → Nat :=
  let c0_i32_47 : BitVec 32 := 0#32
  let c1_i32_49 : BitVec 32 := 1#32
  let arg14 : BitVec 32 := Scf.iv c0_i32_47 c1_i32_49 k0_t3
  let v169 : Index := Scalar.indexCast arg14
  let c176_74 : Index := 176#32
  ![v169.toNat, 176]
def k0_off58 (i : grid0.Coords) (k0_t3 : Fin k0_t3_loop.trips) : Fin 2 → Nat :=
  let arg1 : BitVec 32 := BitVec.ofNat 32 (i 1).val
  let c4_i32 : BitVec 32 := 4#32
  let v86 : BitVec 32 := Scalar.muli arg1 c4_i32
  let c0_i32_47 : BitVec 32 := 0#32
  let c1_i32_49 : BitVec 32 := 1#32
  let arg14 : BitVec 32 := Scf.iv c0_i32_47 c1_i32_49 k0_t3
  let c5_i32 : BitVec 32 := 5#32
  let v87 : BitVec 32 := Scalar.shrui arg14 c5_i32
  let v88 : BitVec 32 := Scalar.addi v86 v87
  let v173 : Index := Scalar.indexCast v88
  let c192_75 : Index := 192#32
  ![v173.toNat, 192]
def k0_off59 (k0_t3 : Fin k0_t3_loop.trips) : Fin 2 → Nat :=
  let c0_i32_47 : BitVec 32 := 0#32
  let c1_i32_49 : BitVec 32 := 1#32
  let arg14 : BitVec 32 := Scf.iv c0_i32_47 c1_i32_49 k0_t3
  let v176 : Index := Scalar.indexCast arg14
  let c192_76 : Index := 192#32
  ![v176.toNat, 192]
def k0_off60 (i : grid0.Coords) (k0_t3 : Fin k0_t3_loop.trips) : Fin 2 → Nat :=
  let arg1 : BitVec 32 := BitVec.ofNat 32 (i 1).val
  let c4_i32 : BitVec 32 := 4#32
  let v86 : BitVec 32 := Scalar.muli arg1 c4_i32
  let c0_i32_47 : BitVec 32 := 0#32
  let c1_i32_49 : BitVec 32 := 1#32
  let arg14 : BitVec 32 := Scf.iv c0_i32_47 c1_i32_49 k0_t3
  let c5_i32 : BitVec 32 := 5#32
  let v87 : BitVec 32 := Scalar.shrui arg14 c5_i32
  let v88 : BitVec 32 := Scalar.addi v86 v87
  let v180 : Index := Scalar.indexCast v88
  let c208_77 : Index := 208#32
  ![v180.toNat, 208]
def k0_off61 (k0_t3 : Fin k0_t3_loop.trips) : Fin 2 → Nat :=
  let c0_i32_47 : BitVec 32 := 0#32
  let c1_i32_49 : BitVec 32 := 1#32
  let arg14 : BitVec 32 := Scf.iv c0_i32_47 c1_i32_49 k0_t3
  let v183 : Index := Scalar.indexCast arg14
  let c208_78 : Index := 208#32
  ![v183.toNat, 208]
def k0_off62 (i : grid0.Coords) (k0_t3 : Fin k0_t3_loop.trips) : Fin 2 → Nat :=
  let arg1 : BitVec 32 := BitVec.ofNat 32 (i 1).val
  let c4_i32 : BitVec 32 := 4#32
  let v86 : BitVec 32 := Scalar.muli arg1 c4_i32
  let c0_i32_47 : BitVec 32 := 0#32
  let c1_i32_49 : BitVec 32 := 1#32
  let arg14 : BitVec 32 := Scf.iv c0_i32_47 c1_i32_49 k0_t3
  let c5_i32 : BitVec 32 := 5#32
  let v87 : BitVec 32 := Scalar.shrui arg14 c5_i32
  let v88 : BitVec 32 := Scalar.addi v86 v87
  let v187 : Index := Scalar.indexCast v88
  let c224_79 : Index := 224#32
  ![v187.toNat, 224]
def k0_off63 (k0_t3 : Fin k0_t3_loop.trips) : Fin 2 → Nat :=
  let c0_i32_47 : BitVec 32 := 0#32
  let c1_i32_49 : BitVec 32 := 1#32
  let arg14 : BitVec 32 := Scf.iv c0_i32_47 c1_i32_49 k0_t3
  let v190 : Index := Scalar.indexCast arg14
  let c224_80 : Index := 224#32
  ![v190.toNat, 224]
def k0_off64 (i : grid0.Coords) (k0_t3 : Fin k0_t3_loop.trips) : Fin 2 → Nat :=
  let arg1 : BitVec 32 := BitVec.ofNat 32 (i 1).val
  let c4_i32 : BitVec 32 := 4#32
  let v86 : BitVec 32 := Scalar.muli arg1 c4_i32
  let c0_i32_47 : BitVec 32 := 0#32
  let c1_i32_49 : BitVec 32 := 1#32
  let arg14 : BitVec 32 := Scf.iv c0_i32_47 c1_i32_49 k0_t3
  let c5_i32 : BitVec 32 := 5#32
  let v87 : BitVec 32 := Scalar.shrui arg14 c5_i32
  let v88 : BitVec 32 := Scalar.addi v86 v87
  let v194 : Index := Scalar.indexCast v88
  let c240_81 : Index := 240#32
  ![v194.toNat, 240]
def k0_off65 (k0_t3 : Fin k0_t3_loop.trips) : Fin 2 → Nat :=
  let c0_i32_47 : BitVec 32 := 0#32
  let c1_i32_49 : BitVec 32 := 1#32
  let arg14 : BitVec 32 := Scf.iv c0_i32_47 c1_i32_49 k0_t3
  let v197 : Index := Scalar.indexCast arg14
  let c240_82 : Index := 240#32
  ![v197.toNat, 240]
@[reducible] def k0_t4_loop : Scf.Loop 32 :=
  let c0_i32_47 : BitVec 32 := 0#32
  let c128_i32_48 : BitVec 32 := 128#32
  let v84 : BitVec 32 := Scalar.addi c0_i32_47 c128_i32_48
  let c1_i32_49 : BitVec 32 := 1#32
  ⟨c0_i32_47, v84, c1_i32_49⟩
def k0_off66 (k0_t4 : Fin k0_t4_loop.trips) : Fin 2 → Nat :=
  let c0_i32_47 : BitVec 32 := 0#32
  let c1_i32_49 : BitVec 32 := 1#32
  let arg14 : BitVec 32 := Scf.iv c0_i32_47 c1_i32_49 k0_t4
  let c31_i32 : BitVec 32 := 31#32
  let v86 : BitVec 32 := Scalar.andi arg14 c31_i32
  let v87 : Index := Scalar.indexCast v86
  let c0_51 : Index := 0#32
  ![v87.toNat, 0]
def k0_off67 (k0_t4 : Fin k0_t4_loop.trips) : Fin 2 → Nat :=
  let c0_i32_47 : BitVec 32 := 0#32
  let c1_i32_49 : BitVec 32 := 1#32
  let arg14 : BitVec 32 := Scf.iv c0_i32_47 c1_i32_49 k0_t4
  let v90 : Index := Scalar.indexCast arg14
  let c0_52 : Index := 0#32
  ![v90.toNat, 0]
def k0_off68 (k0_t4 : Fin k0_t4_loop.trips) : Fin 2 → Nat :=
  let c0_i32_47 : BitVec 32 := 0#32
  let c1_i32_49 : BitVec 32 := 1#32
  let arg14 : BitVec 32 := Scf.iv c0_i32_47 c1_i32_49 k0_t4
  let c31_i32 : BitVec 32 := 31#32
  let v86 : BitVec 32 := Scalar.andi arg14 c31_i32
  let v94 : Index := Scalar.indexCast v86
  let c16_53 : Index := 16#32
  ![v94.toNat, 16]
def k0_off69 (k0_t4 : Fin k0_t4_loop.trips) : Fin 2 → Nat :=
  let c0_i32_47 : BitVec 32 := 0#32
  let c1_i32_49 : BitVec 32 := 1#32
  let arg14 : BitVec 32 := Scf.iv c0_i32_47 c1_i32_49 k0_t4
  let v97 : Index := Scalar.indexCast arg14
  let c16_54 : Index := 16#32
  ![v97.toNat, 16]
def k0_off70 (k0_t4 : Fin k0_t4_loop.trips) : Fin 2 → Nat :=
  let c0_i32_47 : BitVec 32 := 0#32
  let c1_i32_49 : BitVec 32 := 1#32
  let arg14 : BitVec 32 := Scf.iv c0_i32_47 c1_i32_49 k0_t4
  let c31_i32 : BitVec 32 := 31#32
  let v86 : BitVec 32 := Scalar.andi arg14 c31_i32
  let v101 : Index := Scalar.indexCast v86
  let c32_55 : Index := 32#32
  ![v101.toNat, 32]
def k0_off71 (k0_t4 : Fin k0_t4_loop.trips) : Fin 2 → Nat :=
  let c0_i32_47 : BitVec 32 := 0#32
  let c1_i32_49 : BitVec 32 := 1#32
  let arg14 : BitVec 32 := Scf.iv c0_i32_47 c1_i32_49 k0_t4
  let v104 : Index := Scalar.indexCast arg14
  let c32_56 : Index := 32#32
  ![v104.toNat, 32]
def k0_off72 (k0_t4 : Fin k0_t4_loop.trips) : Fin 2 → Nat :=
  let c0_i32_47 : BitVec 32 := 0#32
  let c1_i32_49 : BitVec 32 := 1#32
  let arg14 : BitVec 32 := Scf.iv c0_i32_47 c1_i32_49 k0_t4
  let c31_i32 : BitVec 32 := 31#32
  let v86 : BitVec 32 := Scalar.andi arg14 c31_i32
  let v108 : Index := Scalar.indexCast v86
  let c48_57 : Index := 48#32
  ![v108.toNat, 48]
def k0_off73 (k0_t4 : Fin k0_t4_loop.trips) : Fin 2 → Nat :=
  let c0_i32_47 : BitVec 32 := 0#32
  let c1_i32_49 : BitVec 32 := 1#32
  let arg14 : BitVec 32 := Scf.iv c0_i32_47 c1_i32_49 k0_t4
  let v111 : Index := Scalar.indexCast arg14
  let c48_58 : Index := 48#32
  ![v111.toNat, 48]
def k0_off74 (k0_t4 : Fin k0_t4_loop.trips) : Fin 2 → Nat :=
  let c0_i32_47 : BitVec 32 := 0#32
  let c1_i32_49 : BitVec 32 := 1#32
  let arg14 : BitVec 32 := Scf.iv c0_i32_47 c1_i32_49 k0_t4
  let c31_i32 : BitVec 32 := 31#32
  let v86 : BitVec 32 := Scalar.andi arg14 c31_i32
  let v115 : Index := Scalar.indexCast v86
  let c64_59 : Index := 64#32
  ![v115.toNat, 64]
def k0_off75 (k0_t4 : Fin k0_t4_loop.trips) : Fin 2 → Nat :=
  let c0_i32_47 : BitVec 32 := 0#32
  let c1_i32_49 : BitVec 32 := 1#32
  let arg14 : BitVec 32 := Scf.iv c0_i32_47 c1_i32_49 k0_t4
  let v118 : Index := Scalar.indexCast arg14
  let c64_60 : Index := 64#32
  ![v118.toNat, 64]
def k0_off76 (k0_t4 : Fin k0_t4_loop.trips) : Fin 2 → Nat :=
  let c0_i32_47 : BitVec 32 := 0#32
  let c1_i32_49 : BitVec 32 := 1#32
  let arg14 : BitVec 32 := Scf.iv c0_i32_47 c1_i32_49 k0_t4
  let c31_i32 : BitVec 32 := 31#32
  let v86 : BitVec 32 := Scalar.andi arg14 c31_i32
  let v122 : Index := Scalar.indexCast v86
  let c80_61 : Index := 80#32
  ![v122.toNat, 80]
def k0_off77 (k0_t4 : Fin k0_t4_loop.trips) : Fin 2 → Nat :=
  let c0_i32_47 : BitVec 32 := 0#32
  let c1_i32_49 : BitVec 32 := 1#32
  let arg14 : BitVec 32 := Scf.iv c0_i32_47 c1_i32_49 k0_t4
  let v125 : Index := Scalar.indexCast arg14
  let c80_62 : Index := 80#32
  ![v125.toNat, 80]
def k0_off78 (k0_t4 : Fin k0_t4_loop.trips) : Fin 2 → Nat :=
  let c0_i32_47 : BitVec 32 := 0#32
  let c1_i32_49 : BitVec 32 := 1#32
  let arg14 : BitVec 32 := Scf.iv c0_i32_47 c1_i32_49 k0_t4
  let c31_i32 : BitVec 32 := 31#32
  let v86 : BitVec 32 := Scalar.andi arg14 c31_i32
  let v129 : Index := Scalar.indexCast v86
  let c96_63 : Index := 96#32
  ![v129.toNat, 96]
def k0_off79 (k0_t4 : Fin k0_t4_loop.trips) : Fin 2 → Nat :=
  let c0_i32_47 : BitVec 32 := 0#32
  let c1_i32_49 : BitVec 32 := 1#32
  let arg14 : BitVec 32 := Scf.iv c0_i32_47 c1_i32_49 k0_t4
  let v132 : Index := Scalar.indexCast arg14
  let c96_64 : Index := 96#32
  ![v132.toNat, 96]
def k0_off80 (k0_t4 : Fin k0_t4_loop.trips) : Fin 2 → Nat :=
  let c0_i32_47 : BitVec 32 := 0#32
  let c1_i32_49 : BitVec 32 := 1#32
  let arg14 : BitVec 32 := Scf.iv c0_i32_47 c1_i32_49 k0_t4
  let c31_i32 : BitVec 32 := 31#32
  let v86 : BitVec 32 := Scalar.andi arg14 c31_i32
  let v136 : Index := Scalar.indexCast v86
  let c112_65 : Index := 112#32
  ![v136.toNat, 112]
def k0_off81 (k0_t4 : Fin k0_t4_loop.trips) : Fin 2 → Nat :=
  let c0_i32_47 : BitVec 32 := 0#32
  let c1_i32_49 : BitVec 32 := 1#32
  let arg14 : BitVec 32 := Scf.iv c0_i32_47 c1_i32_49 k0_t4
  let v139 : Index := Scalar.indexCast arg14
  let c112_66 : Index := 112#32
  ![v139.toNat, 112]
def k0_off82 (k0_t4 : Fin k0_t4_loop.trips) : Fin 2 → Nat :=
  let c0_i32_47 : BitVec 32 := 0#32
  let c1_i32_49 : BitVec 32 := 1#32
  let arg14 : BitVec 32 := Scf.iv c0_i32_47 c1_i32_49 k0_t4
  let c31_i32 : BitVec 32 := 31#32
  let v86 : BitVec 32 := Scalar.andi arg14 c31_i32
  let v143 : Index := Scalar.indexCast v86
  let c128_67 : Index := 128#32
  ![v143.toNat, 128]
def k0_off83 (k0_t4 : Fin k0_t4_loop.trips) : Fin 2 → Nat :=
  let c0_i32_47 : BitVec 32 := 0#32
  let c1_i32_49 : BitVec 32 := 1#32
  let arg14 : BitVec 32 := Scf.iv c0_i32_47 c1_i32_49 k0_t4
  let v146 : Index := Scalar.indexCast arg14
  let c128_68 : Index := 128#32
  ![v146.toNat, 128]
def k0_off84 (k0_t4 : Fin k0_t4_loop.trips) : Fin 2 → Nat :=
  let c0_i32_47 : BitVec 32 := 0#32
  let c1_i32_49 : BitVec 32 := 1#32
  let arg14 : BitVec 32 := Scf.iv c0_i32_47 c1_i32_49 k0_t4
  let c31_i32 : BitVec 32 := 31#32
  let v86 : BitVec 32 := Scalar.andi arg14 c31_i32
  let v150 : Index := Scalar.indexCast v86
  let c144_69 : Index := 144#32
  ![v150.toNat, 144]
def k0_off85 (k0_t4 : Fin k0_t4_loop.trips) : Fin 2 → Nat :=
  let c0_i32_47 : BitVec 32 := 0#32
  let c1_i32_49 : BitVec 32 := 1#32
  let arg14 : BitVec 32 := Scf.iv c0_i32_47 c1_i32_49 k0_t4
  let v153 : Index := Scalar.indexCast arg14
  let c144_70 : Index := 144#32
  ![v153.toNat, 144]
def k0_off86 (k0_t4 : Fin k0_t4_loop.trips) : Fin 2 → Nat :=
  let c0_i32_47 : BitVec 32 := 0#32
  let c1_i32_49 : BitVec 32 := 1#32
  let arg14 : BitVec 32 := Scf.iv c0_i32_47 c1_i32_49 k0_t4
  let c31_i32 : BitVec 32 := 31#32
  let v86 : BitVec 32 := Scalar.andi arg14 c31_i32
  let v157 : Index := Scalar.indexCast v86
  let c160_71 : Index := 160#32
  ![v157.toNat, 160]
def k0_off87 (k0_t4 : Fin k0_t4_loop.trips) : Fin 2 → Nat :=
  let c0_i32_47 : BitVec 32 := 0#32
  let c1_i32_49 : BitVec 32 := 1#32
  let arg14 : BitVec 32 := Scf.iv c0_i32_47 c1_i32_49 k0_t4
  let v160 : Index := Scalar.indexCast arg14
  let c160_72 : Index := 160#32
  ![v160.toNat, 160]
def k0_off88 (k0_t4 : Fin k0_t4_loop.trips) : Fin 2 → Nat :=
  let c0_i32_47 : BitVec 32 := 0#32
  let c1_i32_49 : BitVec 32 := 1#32
  let arg14 : BitVec 32 := Scf.iv c0_i32_47 c1_i32_49 k0_t4
  let c31_i32 : BitVec 32 := 31#32
  let v86 : BitVec 32 := Scalar.andi arg14 c31_i32
  let v164 : Index := Scalar.indexCast v86
  let c176_73 : Index := 176#32
  ![v164.toNat, 176]
def k0_off89 (k0_t4 : Fin k0_t4_loop.trips) : Fin 2 → Nat :=
  let c0_i32_47 : BitVec 32 := 0#32
  let c1_i32_49 : BitVec 32 := 1#32
  let arg14 : BitVec 32 := Scf.iv c0_i32_47 c1_i32_49 k0_t4
  let v167 : Index := Scalar.indexCast arg14
  let c176_74 : Index := 176#32
  ![v167.toNat, 176]
def k0_off90 (k0_t4 : Fin k0_t4_loop.trips) : Fin 2 → Nat :=
  let c0_i32_47 : BitVec 32 := 0#32
  let c1_i32_49 : BitVec 32 := 1#32
  let arg14 : BitVec 32 := Scf.iv c0_i32_47 c1_i32_49 k0_t4
  let c31_i32 : BitVec 32 := 31#32
  let v86 : BitVec 32 := Scalar.andi arg14 c31_i32
  let v171 : Index := Scalar.indexCast v86
  let c192_75 : Index := 192#32
  ![v171.toNat, 192]
def k0_off91 (k0_t4 : Fin k0_t4_loop.trips) : Fin 2 → Nat :=
  let c0_i32_47 : BitVec 32 := 0#32
  let c1_i32_49 : BitVec 32 := 1#32
  let arg14 : BitVec 32 := Scf.iv c0_i32_47 c1_i32_49 k0_t4
  let v174 : Index := Scalar.indexCast arg14
  let c192_76 : Index := 192#32
  ![v174.toNat, 192]
def k0_off92 (k0_t4 : Fin k0_t4_loop.trips) : Fin 2 → Nat :=
  let c0_i32_47 : BitVec 32 := 0#32
  let c1_i32_49 : BitVec 32 := 1#32
  let arg14 : BitVec 32 := Scf.iv c0_i32_47 c1_i32_49 k0_t4
  let c31_i32 : BitVec 32 := 31#32
  let v86 : BitVec 32 := Scalar.andi arg14 c31_i32
  let v178 : Index := Scalar.indexCast v86
  let c208_77 : Index := 208#32
  ![v178.toNat, 208]
def k0_off93 (k0_t4 : Fin k0_t4_loop.trips) : Fin 2 → Nat :=
  let c0_i32_47 : BitVec 32 := 0#32
  let c1_i32_49 : BitVec 32 := 1#32
  let arg14 : BitVec 32 := Scf.iv c0_i32_47 c1_i32_49 k0_t4
  let v181 : Index := Scalar.indexCast arg14
  let c208_78 : Index := 208#32
  ![v181.toNat, 208]
def k0_off94 (k0_t4 : Fin k0_t4_loop.trips) : Fin 2 → Nat :=
  let c0_i32_47 : BitVec 32 := 0#32
  let c1_i32_49 : BitVec 32 := 1#32
  let arg14 : BitVec 32 := Scf.iv c0_i32_47 c1_i32_49 k0_t4
  let c31_i32 : BitVec 32 := 31#32
  let v86 : BitVec 32 := Scalar.andi arg14 c31_i32
  let v185 : Index := Scalar.indexCast v86
  let c224_79 : Index := 224#32
  ![v185.toNat, 224]
def k0_off95 (k0_t4 : Fin k0_t4_loop.trips) : Fin 2 → Nat :=
  let c0_i32_47 : BitVec 32 := 0#32
  let c1_i32_49 : BitVec 32 := 1#32
  let arg14 : BitVec 32 := Scf.iv c0_i32_47 c1_i32_49 k0_t4
  let v188 : Index := Scalar.indexCast arg14
  let c224_80 : Index := 224#32
  ![v188.toNat, 224]
def k0_off96 (k0_t4 : Fin k0_t4_loop.trips) : Fin 2 → Nat :=
  let c0_i32_47 : BitVec 32 := 0#32
  let c1_i32_49 : BitVec 32 := 1#32
  let arg14 : BitVec 32 := Scf.iv c0_i32_47 c1_i32_49 k0_t4
  let c31_i32 : BitVec 32 := 31#32
  let v86 : BitVec 32 := Scalar.andi arg14 c31_i32
  let v192 : Index := Scalar.indexCast v86
  let c240_81 : Index := 240#32
  ![v192.toNat, 240]
def k0_off97 (k0_t4 : Fin k0_t4_loop.trips) : Fin 2 → Nat :=
  let c0_i32_47 : BitVec 32 := 0#32
  let c1_i32_49 : BitVec 32 := 1#32
  let arg14 : BitVec 32 := Scf.iv c0_i32_47 c1_i32_49 k0_t4
  let v195 : Index := Scalar.indexCast arg14
  let c240_82 : Index := 240#32
  ![v195.toNat, 240]
def k0_off98 (i : grid0.Coords) : Fin 2 → Nat :=
  let arg1 : BitVec 32 := BitVec.ofNat 32 (i 1).val
  let c128_i32_7 : BitVec 32 := 128#32
  let v57 : BitVec 32 := Scalar.muli arg1 c128_i32_7
  let c0_i32_46_r3 : BitVec 32 := 0#32
  ![v57.toNat, 0]
def k0_off99 (i : grid0.Coords) (c32_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v58 : BitVec 32 := Scalar.addi c32_i32 v1
  let c1024_i32 : BitVec 32 := 1024#32
  let v59 : BitVec 32 := Scalar.muli v58 c1024_i32
  let c0_i32_9 : BitVec 32 := 0#32
  ![v59.toNat, 0]
def k0_off99_at (r : Fin 4) : BitVec 32 :=
  if r.val < 2 then
    if r.val < 1 then
      32#32
    else
      128#32
  else
    if r.val < 3 then
      64#32
    else
      160#32
@[reducible] def k0_t5_loop : Scf.Loop 32 :=
  let c0_i32_26 : BitVec 32 := 0#32
  let c16_i32_27 : BitVec 32 := 16#32
  let v74 : BitVec 32 := Scalar.addi c0_i32_26 c16_i32_27
  let c1_i32_28 : BitVec 32 := 1#32
  ⟨c0_i32_26, v74, c1_i32_28⟩
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S2x4x32x32x32 : Shape := ⟨5, ![2, 4, 32, 32, 32]⟩
abbrev S32x256 : Shape := ⟨2, ![32, 256]⟩
abbrev S32 : Shape := ⟨1, ![32]⟩
abbrev S_ : Shape := ⟨0, ![]⟩
abbrev S32x1 : Shape := ⟨2, ![32, 1]⟩
abbrev S1 : Shape := ⟨1, ![1]⟩
abbrev S1x1 : Shape := ⟨2, ![1, 1]⟩
abbrev S32x1x1x256 : Shape := ⟨4, ![32, 1, 1, 256]⟩
abbrev S32x32x32x256 : Shape := ⟨4, ![32, 32, 32, 256]⟩
abbrev S1x32x1x256 : Shape := ⟨4, ![1, 32, 1, 256]⟩
abbrev S1x1x32x256 : Shape := ⟨4, ![1, 1, 32, 256]⟩
abbrev S1x32x32x32x256 : Shape := ⟨5, ![1, 32, 32, 32, 256]⟩
abbrev S3x32x32x32x256 : Shape := ⟨5, ![3, 32, 32, 32, 256]⟩
abbrev S1x3x32x32x32x256 : Shape := ⟨6, ![1, 3, 32, 32, 32, 256]⟩
abbrev S2x3x32x32x32x256 : Shape := ⟨6, ![2, 3, 32, 32, 32, 256]⟩

abbrev nBuf : Space → Nat
  | .hbm => 88
  | .vmem => 0
  | .smem => 0
  | _ => 0

abbrev bufTy : (tb : Table) → Fin (tcTables nBuf tb) → BufTy
  | .hbm, ⟨0, _⟩ => ⟨S2x4x32x32x32, .f32⟩
  | .hbm, ⟨1, _⟩ => ⟨S32x256, .f32⟩
  | .hbm, ⟨2, _⟩ => ⟨S32x256, .f32⟩
  | .hbm, ⟨3, _⟩ => ⟨S32x256, .f32⟩
  | .hbm, ⟨4, _⟩ => ⟨S32, .i32⟩
  | .hbm, ⟨5, _⟩ => ⟨S32, .i32⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i1⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S32, .i32⟩
  | .hbm, ⟨14, _⟩ => ⟨S32x1, .i32⟩
  | .hbm, ⟨15, _⟩ => ⟨S1, .i32⟩
  | .hbm, ⟨16, _⟩ => ⟨S_, .i32⟩
  | .hbm, ⟨17, _⟩ => ⟨S32x1, .i32⟩
  | .hbm, ⟨18, _⟩ => ⟨S32x1, .i1⟩
  | .hbm, ⟨19, _⟩ => ⟨S1x1, .i32⟩
  | .hbm, ⟨20, _⟩ => ⟨S32x1, .i32⟩
  | .hbm, ⟨21, _⟩ => ⟨S32x1, .i1⟩
  | .hbm, ⟨22, _⟩ => ⟨S32x1, .i1⟩
  | .hbm, ⟨23, _⟩ => ⟨S_, .i1⟩
  | .hbm, ⟨24, _⟩ => ⟨S32, .i1⟩
  | .hbm, ⟨25, _⟩ => ⟨S32x256, .f32⟩
  | .hbm, ⟨26, _⟩ => ⟨S32x256, .i1⟩
  | .hbm, ⟨27, _⟩ => ⟨S_, .f32⟩
  | .hbm, ⟨28, _⟩ => ⟨S32x256, .f32⟩
  | .hbm, ⟨29, _⟩ => ⟨S32x256, .f32⟩
  | .hbm, ⟨30, _⟩ => ⟨S_, .i32⟩
  | .hbm, ⟨31, _⟩ => ⟨S32, .i32⟩
  | .hbm, ⟨32, _⟩ => ⟨S32, .i1⟩
  | .hbm, ⟨33, _⟩ => ⟨S_, .i32⟩
  | .hbm, ⟨34, _⟩ => ⟨S32, .i32⟩
  | .hbm, ⟨35, _⟩ => ⟨S32, .i32⟩
  | .hbm, ⟨36, _⟩ => ⟨S32, .i32⟩
  | .hbm, ⟨37, _⟩ => ⟨S32x1, .i32⟩
  | .hbm, ⟨38, _⟩ => ⟨S1, .i32⟩
  | .hbm, ⟨39, _⟩ => ⟨S_, .i32⟩
  | .hbm, ⟨40, _⟩ => ⟨S32x1, .i32⟩
  | .hbm, ⟨41, _⟩ => ⟨S32x1, .i1⟩
  | .hbm, ⟨42, _⟩ => ⟨S1x1, .i32⟩
  | .hbm, ⟨43, _⟩ => ⟨S32x1, .i32⟩
  | .hbm, ⟨44, _⟩ => ⟨S32x1, .i1⟩
  | .hbm, ⟨45, _⟩ => ⟨S32x1, .i1⟩
  | .hbm, ⟨46, _⟩ => ⟨S_, .i1⟩
  | .hbm, ⟨47, _⟩ => ⟨S32, .i1⟩
  | .hbm, ⟨48, _⟩ => ⟨S32x256, .f32⟩
  | .hbm, ⟨49, _⟩ => ⟨S32x256, .i1⟩
  | .hbm, ⟨50, _⟩ => ⟨S_, .f32⟩
  | .hbm, ⟨51, _⟩ => ⟨S32x256, .f32⟩
  | .hbm, ⟨52, _⟩ => ⟨S32x256, .f32⟩
  | .hbm, ⟨53, _⟩ => ⟨S_, .i32⟩
  | .hbm, ⟨54, _⟩ => ⟨S32, .i32⟩
  | .hbm, ⟨55, _⟩ => ⟨S32, .i1⟩
  | .hbm, ⟨56, _⟩ => ⟨S_, .i32⟩
  | .hbm, ⟨57, _⟩ => ⟨S32, .i32⟩
  | .hbm, ⟨58, _⟩ => ⟨S32, .i32⟩
  | .hbm, ⟨59, _⟩ => ⟨S32, .i32⟩
  | .hbm, ⟨60, _⟩ => ⟨S32x1, .i32⟩
  | .hbm, ⟨61, _⟩ => ⟨S1, .i32⟩
  | .hbm, ⟨62, _⟩ => ⟨S_, .i32⟩
  | .hbm, ⟨63, _⟩ => ⟨S32x1, .i32⟩
  | .hbm, ⟨64, _⟩ => ⟨S32x1, .i1⟩
  | .hbm, ⟨65, _⟩ => ⟨S1x1, .i32⟩
  | .hbm, ⟨66, _⟩ => ⟨S32x1, .i32⟩
  | .hbm, ⟨67, _⟩ => ⟨S32x1, .i1⟩
  | .hbm, ⟨68, _⟩ => ⟨S32x1, .i1⟩
  | .hbm, ⟨69, _⟩ => ⟨S_, .i1⟩
  | .hbm, ⟨70, _⟩ => ⟨S32, .i1⟩
  | .hbm, ⟨71, _⟩ => ⟨S32x256, .f32⟩
  | .hbm, ⟨72, _⟩ => ⟨S32x256, .i1⟩
  | .hbm, ⟨73, _⟩ => ⟨S_, .f32⟩
  | .hbm, ⟨74, _⟩ => ⟨S32x256, .f32⟩
  | .hbm, ⟨75, _⟩ => ⟨S32x256, .f32⟩
  | .hbm, ⟨76, _⟩ => ⟨S32x1x1x256, .f32⟩
  | .hbm, ⟨77, _⟩ => ⟨S32x32x32x256, .f32⟩
  | .hbm, ⟨78, _⟩ => ⟨S1x32x1x256, .f32⟩
  | .hbm, ⟨79, _⟩ => ⟨S32x32x32x256, .f32⟩
  | .hbm, ⟨80, _⟩ => ⟨S1x1x32x256, .f32⟩
  | .hbm, ⟨81, _⟩ => ⟨S32x32x32x256, .f32⟩
  | .hbm, ⟨82, _⟩ => ⟨S1x32x32x32x256, .f32⟩
  | .hbm, ⟨83, _⟩ => ⟨S1x32x32x32x256, .f32⟩
  | .hbm, ⟨84, _⟩ => ⟨S1x32x32x32x256, .f32⟩
  | .hbm, ⟨85, _⟩ => ⟨S3x32x32x32x256, .f32⟩
  | .hbm, ⟨86, _⟩ => ⟨S1x3x32x32x32x256, .f32⟩
  | .hbm, ⟨87, _⟩ => ⟨S2x3x32x32x32x256, .f32⟩
  | _, _ => ⟨S2x4x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v3 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v4 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_c_1 : Ref sig .tc := ⟨.hbm, 61, rfl⟩
abbrev main_call2_c_2 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_3 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_call2_cst : Ref sig .tc := ⟨.hbm, 73, rfl⟩
abbrev main_call2_v15 : Ref sig .tc := ⟨.hbm, 74, rfl⟩
abbrev main_v5 : Ref sig .tc := ⟨.hbm, 75, rfl⟩
abbrev main_v6 : Ref sig .tc := ⟨.hbm, 76, rfl⟩
abbrev main_v7 : Ref sig .tc := ⟨.hbm, 77, rfl⟩
abbrev main_v8 : Ref sig .tc := ⟨.hbm, 78, rfl⟩
abbrev main_v9 : Ref sig .tc := ⟨.hbm, 79, rfl⟩
abbrev main_v10 : Ref sig .tc := ⟨.hbm, 80, rfl⟩
abbrev main_v11 : Ref sig .tc := ⟨.hbm, 81, rfl⟩
abbrev main_v12 : Ref sig .tc := ⟨.hbm, 82, rfl⟩
abbrev main_v13 : Ref sig .tc := ⟨.hbm, 83, rfl⟩
abbrev main_v14 : Ref sig .tc := ⟨.hbm, 84, rfl⟩
abbrev main_v15 : Ref sig .tc := ⟨.hbm, 85, rfl⟩
abbrev main_v16 : Ref sig .tc := ⟨.hbm, 86, rfl⟩
abbrev main_v17 : Ref sig .tc := ⟨.hbm, 87, rfl⟩

abbrev nD : Nat := 1
abbrev τ : Topo := Topo.v7x

variable {F : FTy → Type} [FloatOps F]
-- ==== Proof.Offsets.lean ====
/-
  Where the kernel's accesses lie. Each subcore's number is `wid = 2 * subcore + core`; the rows it reads of the second and
  third tables, the blocks of 128 rows it sends its first-table row to, and the blocks of 1024 rows it sends the shared
  image to are computed in 32-bit words. This module states them as plain numbers.
-/
module

public import proofs.«01_k».proof.Defs
public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic

/-- A subcore's number among the thirty-two: twice its number in its SparseCore, plus the SparseCore's. -/
def wid (L : grid0.Coords) : ℕ := 2 * (L 1).val + (L 0).val

/-- There are thirty-two of them. -/
theorem wid_lt (L : grid0.Coords) : wid L < 32 := by
  have h0 : (L 0).val < 2 := (L 0).isLt
  have h1 : (L 1).val < 16 := (L 1).isLt
  unfold wid; omega

/-- The row of the second table that trip `t` of the fill loop reads: four rows per subcore, thirty-two trips each. -/
theorem rowY : ∀ (L : grid0.Coords) (t : Fin k0_t3_loop.trips), k0_off34 L t 0 = 4 * (L 1).val + t.val / 32 := by decide +kernel

/-- The row of the third table that trip `t` of the fill loop reads: the rows in turn, over and over. -/
theorem rowZ : ∀ t : Fin k0_t4_loop.trips, k0_off66 t 0 = t.val % 32 := by decide +kernel

/-- Where trip `t` of the sending loop sends the first-table chunk: in batch `t / 8`, chunk `t % 8` of the subcore's block. -/
theorem sendX : ∀ (L : grid0.Coords) (t : Fin k0_t2_loop.trips),
    k0_off33 L t = ![(96 * (t.val / 8) + (2 * (L 1).val + (L 0).val)) * 1024 + (t.val % 8) * 128, 0] := by decide +kernel

/-- Where the four copies of the shared image go. -/
theorem sendYZ : ∀ (L : grid0.Coords) (k : Fin 4),
    k0_off99 L (BitVec.ofNat 32 (![32, 128, 64, 160] k)) = ![(![32, 128, 64, 160] k + (2 * (L 1).val + (L 0).val)) * 1024, 0] := by
  decide +kernel

/-- The branch the subcore takes: the second table's for the first eight, the third's for the others. -/
theorem branch_iff : ∀ L : grid0.Coords, k0_cond1 L = 1#1 ↔ (L 1).val < 8 := by decide +kernel

instance (L : grid0.Coords) (t : Fin k0_t2_loop.trips) : ClosedOff (k0_off33 L t) := ⟨_, sendX L t⟩

end Cert.Proof

end
-- ==== Proof.Setup.lean ====
/-
  The names every later module uses: the program as the launch theorem sees it, the ghost state it runs over, the kernel's
  buffers as a subcore addresses them, and the contents each of them is to hold, as functions of the three tables.
-/
module

public import proofs.«01_k».proof.Proof.Offsets
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Pointwise.Index
public import Idealize.ShloMosaic.Lib.Tactic
public import Idealize.ShloMosaic.Lib.Batch
public import Idealize.ShloMosaic.Lib.Ring
public import Idealize.ShloMosaic.Lib.Writes
public import Idealize.ShloMosaic.Lib.ShareLeaves

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The program and its ghost state -/

section Names

variable {F : FTy → Type}

abbrev ΛP : Labels := Pipeline.Sig Λ₀ (Fin 0) fun p => (pcfgs (F := F) p).Adm
abbrev K : SparseCore.Cfg τ sig (ΛP (F := F)) 1 := sc (F := F)
abbrev 𝒱₀ : Variants := Variants.none

/-- The rounds of the launch's handshakes and of the barrier, and the copies' counters. -/
abbrev UH : Type := URounds (GSem nD τ sig) ℕ
abbrev UB : Type := URounds (GSem nD τ sig) ℕ
abbrev UU : Type := UH × (UB × Counters)

/-- The model's resources. -/
abbrev Res (F : FTy → Type) : Type := MT nD τ sig (HIx 1) (Elt F) ℕ UU ℕ

abbrev EH : Emb UH (Res F) := embL
/-- The barrier's rounds within them. -/
def EB : Emb UB (Res F) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB (Res F)).LandsIn (upEmb : UEmb _ (Res F)) := by unfold EB; infer_instance
/-- The copies' counters within them. -/
abbrev EC : UEmb Counters (Res F) := countersEmb (U := UU)

end Names

/-! ## A subcore's buffers -/

abbrev cV (L : grid0.Coords) : Fin τ.nSC := (L 0).castLE hcore0
abbrev jV (L : grid0.Coords) : Fin τ.nSub := (L 1).castLE hsub0

/-- The three tables and the result in main memory; the tables' copies, the two chunks and the shared image. -/
abbrev xM : Memref sig .scVector .hbm S32x256 .f32 := Memref.whole main_arg1_scv
abbrev yM : Memref sig .scVector .hbm S32x256 .f32 := Memref.whole main_arg2_scv
abbrev zM : Memref sig .scVector .hbm S32x256 .f32 := Memref.whole main_arg3_scv
abbrev oM : Memref sig .scVector .hbm S196608x256 .f32 := Memref.whole main_v0_scv
abbrev xB : Memref sig .scVector .vmem S32x256 .f32 := Memref.whole cc0_scratch0
abbrev yB : Memref sig .scVector .vmem S32x256 .f32 := Memref.whole cc0_scratch1
abbrev zB : Memref sig .scVector .vmem S32x256 .f32 := Memref.whole cc0_scratch2
abbrev pB : Memref sig .scVector .vmem S128x256 .f32 := Memref.whole cc0_scratch3
abbrev qB : Memref sig .scVector .vmem S128x256 .f32 := Memref.whole cc0_scratch4
abbrev sM : Memref sig .scVector .shared S2048x256 .f32 := Memref.whole cc0_scratch5

/-- The whole kernel body on subcore `L`, at its buffers. -/
abbrev bodyAt {F : FTy → Type} [FloatOps F] (L : grid0.Coords) : Prog (TpuEff nD τ sig (Elt F) Λ₀ (.scVector (cV L) (jV L))) PUnit :=
  cc0_run L xM (Memref.isWhole_whole _) yM (Memref.isWhole_whole _) zM (Memref.isWhole_whole _) oM (Memref.isWhole_whole _)
    xB (Memref.isWhole_whole _) yB (Memref.isWhole_whole _) zB (Memref.isWhole_whole _) pB (Memref.isWhole_whole _)
    qB (Memref.isWhole_whole _) sM (Memref.isWhole_whole _) cc0_scratch6 cc0_scratch7 cc0_scoped0 cc0_scoped1 cc0_scoped2 cc0_scoped3

/-! ## What the buffers are to hold -/

section Values

variable {α : Type}

/-- A table read at plain numbers, the row and the column each taken round if too large. -/
def tab (T : S32x256.Idx → α) (r n : ℕ) : α := T (ix2 ⟨r % 32, Nat.mod_lt _ (by decide)⟩ ⟨n % 256, Nat.mod_lt _ (by decide)⟩)

/-- At a place of the table it is the table. -/
theorem tab_idx (T : S32x256.Idx → α) (y : S32x256.Idx) : tab T (y 0).val (y 1).val = T y := by
  have h0 : (y 0).val < 32 := (y 0).isLt
  have h1 : (y 1).val < 256 := (y 1).isLt
  unfold tab
  refine congrArg T (funext fun a => Fin.ext ?_)
  match a with
  | 0 => show (y 0).val % 32 = (y 0).val; omega
  | 1 => show (y 1).val % 256 = (y 1).val; omega

/-- The first-table chunk: 128 copies of row `w`. -/
def xG (Tx : S32x256.Idx → α) (w : ℕ) : S128x256.Idx → α := fun y => tab Tx w (y 1).val
/-- Row `r` of the shared image: rows 0 to 1023 the second table's rows, thirty-two times each; rows 1024 to 2047 the
    third table's rows in turn. -/
def imgRow (Ty Tz : S32x256.Idx → α) (r n : ℕ) : α := if r < 1024 then tab Ty (r / 32) n else tab Tz r n
/-- The shared image. -/
def shG (Ty Tz : S32x256.Idx → α) : S2048x256.Idx → α := fun y => imgRow Ty Tz (y 0).val (y 1).val
/-- Subcore `s`'s chunk of it. -/
def cG (Ty Tz : S32x256.Idx → α) (s : ℕ) : S128x256.Idx → α := fun y => imgRow Ty Tz (128 * s + (y 0).val) (y 1).val
/-- Row `r` of the result, 192 blocks of 1024 rows: blocks `32 p + i` (mod 96) hold row `i` of the first table for `p = 0`,
    the second table's rows for `p = 1`, the third's for `p = 2`. -/
def outRow (Tx Ty Tz : S32x256.Idx → α) (r n : ℕ) : α :=
  if r / 32768 % 3 = 0 then tab Tx (r / 1024) n else if r / 32768 % 3 = 1 then tab Ty (r / 32) n else tab Tz r n
/-- The result. -/
def outG (Tx Ty Tz : S32x256.Idx → α) : S196608x256.Idx → α := fun y => outRow Tx Ty Tz (y 0).val (y 1).val

/-- Only a row's number modulo 32 matters to a table. -/
theorem tab_mod (T : S32x256.Idx → α) {r r' : ℕ} (n : ℕ) (h : r % 32 = r' % 32) : tab T r n = tab T r' n := by
  unfold tab; simp only [h]

end Values

end Cert.Proof

end
-- ==== Proof.Send.lean ====
/-
  The sending loop: a subcore's first-table chunk copied to sixteen blocks of 128 rows of the result, all sixteen copies on
  one semaphore.
-/
module

public import proofs.«01_k».proof.Proof.Setup

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

/-! ## The blocks of the result that a subcore writes -/

/-- Rows `r` to `r + n - 1` of an array of `N` rows. -/
def rowsIn (N r n : ℕ) : Finset (Shape.Idx ⟨2, ![N, 256]⟩) := Finset.univ.filter fun y => r ≤ (y 0).val ∧ (y 0).val < r + n
/-- Being one of those rows. -/
theorem mem_rowsIn {N r n : ℕ} {y : Shape.Idx ⟨2, ![N, 256]⟩} : y ∈ rowsIn N r n ↔ r ≤ (y 0).val ∧ (y 0).val < r + n := by
  simp only [rowsIn, Finset.mem_filter, Finset.mem_univ, true_and]

/-- A rectangle of `n` whole rows from row `r` on. -/
theorem rect_rows {N n r : ℕ} {off : Fin 2 → ℕ} (hoff : off = ![r, 0]) (inb) :
    (Rect.unit (s := ⟨2, ![N, 256]⟩) off ![n, 256] inb).set = rowsIn N r n := by
  subst hoff
  ext y
  rw [Rect.mem_set_unit, mem_rowsIn]
  constructor
  · intro h; exact h 0
  · intro h a
    match a with
    | 0 => exact h
    | 1 => exact ⟨Nat.zero_le _, by have h1 : (y 1).val < 256 := (y 1).isLt; show (y 1).val < 0 + 256; omega⟩

/-- Rows of the result. -/
abbrev rowsOf (r n : ℕ) : Finset S196608x256.Idx := rowsIn 196608 r n
/-- A window of whole rows of the result covers those rows. -/
theorem rows_of_rect {n r : ℕ} {off : Fin 2 → ℕ} (hoff : off = ![r, 0]) (inb) :
    ((oM).view.slice (Rect.unit (s := S196608x256) off ![n, 256] inb)).set = rowsOf r n :=
  (View.set_slice_whole _ _).trans (rect_rows hoff inb)

/-- The block trip `t` of the sending loop writes, as the kernel addresses it; -/
def oX (L : grid0.Coords) (t : Fin k0_t2_loop.trips) : Memref sig .scVector .hbm S128x256 .f32 :=
  (oM).slice (Rect.unit (s := S196608x256) (k0_off33 L t) S128x256.size (k0_off33_inb L t)) (fun _ => rfl)
/-- its first row. -/
def rowX (L : grid0.Coords) (t : ℕ) : ℕ := (96 * (t / 8) + (2 * (L 1).val + (L 0).val)) * 1024 + (t % 8) * 128
/-- It covers 128 rows from there on. -/
theorem set_oX (L : grid0.Coords) (t : Fin k0_t2_loop.trips) : (oX L t).view.set = rowsOf (rowX L t.val) 128 :=
  rows_of_rect (sendX L t) _

/-- The whole block of 1024 rows that copy `k` of the shared image writes, as the kernel addresses it; -/
def oYZ (L : grid0.Coords) (k : Fin 4) : Memref sig .scVector .hbm S1024x256 .f32 :=
  (oM).slice (Rect.unit (s := S196608x256) (k0_off99 L (k0_off99_at k)) S1024x256.size (k0_off99_inb L k)) (fun _ => rfl)
/-- its first row. -/
def rowYZ (L : grid0.Coords) (k : Fin 4) : ℕ := ((![32, 128, 64, 160] : Fin 4 → ℕ) k + (2 * (L 1).val + (L 0).val)) * 1024
/-- It covers 1024 rows from there on. -/
theorem set_oYZ (L : grid0.Coords) (k : Fin 4) : (oYZ L k).view.set = rowsOf (rowYZ L k) 1024 :=
  rows_of_rect (r := rowYZ L k) ((congrArg (k0_off99 L) (show k0_off99_at k = BitVec.ofNat 32 ((![32, 128, 64, 160] : Fin 4 → ℕ) k) by
    fin_cases k <;> rfl)).trans (sendYZ L k)) _

/-- A statement said with nothing before it. -/
theorem bind_of_ret {E : Type → Type} {α β : Type} (a : α) (k : α → Prog E β) : (Prog.ret a).bind k = k a := rfl

section Loops

variable {F : FTy → Type} [FloatOps F] [∀ e, Nonempty (Elt F e)]

omit [FloatOps F] [∀ e, Nonempty (Elt F e)] in
/-- What a copy over a whole window leaves there: if each element read from the source is the one wanted at the place it
    goes to, the window holds what is wanted. -/
theorem landed (c : Thread nD τ) {κ : Kind} {sp sp' : Space} {s : Shape} {e : EltTy} (hc : c.2.kind = κ)
    (src : View sig κ sp s e) (dst : View sig κ sp' s e) (fs : src.ty.Contents (Elt F)) (fd OUT : dst.ty.Contents (Elt F))
    (h : ∀ x, (cast (congrArg (Elt F) dst.elt_eq.symm) (src.read (Elt F) fs x)) = OUT (dst.emb x)) :
    ∀ y ∈ dst.set, dst.write (Elt F) fd (ReadAs.same.apply (src.read (Elt F) fs)) Finset.univ y = OUT y := by
  intro y hy
  obtain ⟨x, -, rfl⟩ := Finset.mem_map.mp hy
  rw [View.write_emb_of_mem _ _ (Finset.mem_univ x), ReadAs.apply_same]
  exact h x

/-- The result's array on device `d`. -/
abbrev oLoc (d : Dev nD) : Loc nD τ sig := (SparseCore.T d).loc main_v0
omit [FloatOps F] [∀ e, Nonempty (Elt F e)] in
/-- A block of the result, as the subcore addresses it and as rows of the array. -/
theorem pts_oX (d : Dev nD) (L : grid0.Coords) (t : Fin k0_t2_loop.trips) (f : S196608x256.Idx → Elt F .f32) :
    ((oX L t).view.loc (V d (cV L) (jV L)) ↦[(oX L t).view.set]{fullShare} f : sProp (Res F)) = oLoc d ↦[rowsOf (rowX L t.val) 128]{fullShare} f := by
  rw [set_oX]; rfl
omit [FloatOps F] [∀ e, Nonempty (Elt F e)] in
/-- The same of a block of 1024 rows. -/
theorem pts_oYZ (d : Dev nD) (L : grid0.Coords) (k : Fin 4) (f : S196608x256.Idx → Elt F .f32) :
    ((oYZ L k).view.loc (V d (cV L) (jV L)) ↦[(oYZ L k).view.set]{fullShare} f : sProp (Res F)) = oLoc d ↦[rowsOf (rowYZ L k) 1024]{fullShare} f := by
  rw [set_oYZ]; rfl
omit [FloatOps F] [∀ e, Nonempty (Elt F e)] in
/-- The chunk, under one of the shares the sending loop's copies read it at. -/
abbrev pTok (d : Dev nD) (L : grid0.Coords) (fp : S128x256.Idx → Elt F .f32) (t : ℕ) : sProp (Res F) :=
  (pB).view.loc (V d (cV L) (jV L)) ↦[(pB).view.set]{Transfers.shareTokN fullShare t} fp

/-- What copy `t` of the sending loop is to leave: its block of the result as wanted, and the chunk's share back. -/
def xD (d : Dev nD) (L : grid0.Coords) (fp : S128x256.Idx → Elt F .f32) (OUT : S196608x256.Idx → Elt F .f32)
    (t : Fin k0_t2_loop.trips) : sProp (Res F) :=
  iprop((oLoc d ↦[rowsOf (rowX L t.val) 128]{fullShare} OUT) ∗ pTok d L fp t.val)
/-- A semaphore may keep that for the wait. -/
instance xD_storable (d : Dev nD) (L : grid0.Coords) (fp : S128x256.Idx → Elt F .f32) (OUT : S196608x256.Idx → Elt F .f32)
    (t : Fin k0_t2_loop.trips) : Storable (upEmb : UEmb _ (Res F)) (xD d L fp OUT t) := by unfold xD; infer_instance

/-- The sending loop's copies, `j` of them begun and `u` of their credit taken. -/
abbrev xBatch (d : Dev nD) (L : grid0.Coords) (fp : S128x256.Idx → Elt F .f32) (OUT : S196608x256.Idx → Elt F .f32) (j u : ℕ) : sProp (Res F) :=
  Transfers.Batch EC (V d (cV L) (jV L)) (.dma cc0_scratch6.sem) (default : HIx 1) 1048576 (xD d L fp OUT) j u

/-- Before trip `k` of the sending loop: `k` copies begun; the later blocks and the later shares of the chunk still held. -/
def sent (d : Dev nD) (L : grid0.Coords) (fp : S128x256.Idx → Elt F .f32) (fo OUT : S196608x256.Idx → Elt F .f32) (k : ℕ) : sProp (Res F) :=
  iprop(xBatch d L fp OUT k 0
    ∗ bigSep (Ring.rangeSet k0_t2_loop.trips k k0_t2_loop.trips) (fun t => (oLoc d ↦[rowsOf (rowX L t.val) 128]{fullShare} fo))
    ∗ bigSep (Ring.rangeSet k0_t2_loop.trips k k0_t2_loop.trips) (fun t => pTok d L fp t.val))

/-- One trip of the sending loop. -/
theorem t2_step (d : Dev nD) (L : grid0.Coords) (fp : S128x256.Idx → Elt F .f32) (fo OUT : S196608x256.Idx → Elt F .f32)
    (h : ∀ t x, fp x = OUT ((oX L t).view.emb x))
    (arg1 v1 : BitVec 32) (v4 v7 v10 v13 v16 v19 v22 v25 v28 v31 v34 v37 : FVec F S16 .f32)
    (k : Fin k0_t2_loop.trips) (acc : BitVec 32) :
    sent d L fp fo OUT k.val ⊢ wp frame (wpE (defs₀ (F := F)) 𝒱₀ (V d (cV L) (jV L)) none) Set.univ
      (k0_t2_body L xM (Memref.isWhole_whole _) yM (Memref.isWhole_whole _) zM (Memref.isWhole_whole _) oM (Memref.isWhole_whole _)
        xB (Memref.isWhole_whole _) yB (Memref.isWhole_whole _) zB (Memref.isWhole_whole _) pB (Memref.isWhole_whole _)
        qB (Memref.isWhole_whole _) sM (Memref.isWhole_whole _) cc0_scratch6 cc0_scratch7 cc0_scoped0 cc0_scoped1 cc0_scoped2 cc0_scoped3
        arg1 v1 v4 v7 v10 v13 v16 v19 v22 v25 v28 v31 v34 v37 k acc)
      fun _ => sent d L fp fo OUT (k.val + 1) := by
  have hk := k.isLt
  unfold k0_t2_body sent
  rw [Ring.bigSep_rangeSet_head hk hk, Ring.bigSep_rangeSet_head hk hk]
  rw [← pts_oX d L k fo]
  iintro ⟨HB, ⟨Ho, Hos⟩, Ht, Hts⟩
  iapply (Transfers.wp_dmaBatch EC 𝒱₀ (V d (cV L) (jV L)) none (src := pB) (dst := oX L k) (default : HIx 1) 1048576 rfl subset_rfl
    (D := xD d L fp OUT) (j := k.val) (u := 0) hk (Nat.zero_le _) (by
      unfold xD
      rw [← pts_oX d L k OUT, pointsTo_congr (landed (V d (cV L) (jV L)) rfl (pB).view (oX L k).view fp fo OUT (h k))]
      )) $$ [Ho Ht HB]
  · isplitl [Ht]; · iexact Ht
    isplitl [Ho]; · iexact Ho
    iexact HB
  iintro HB
  simp only [bind_of_ret]
  sl_step
  isplitl [HB]; · iexact HB
  isplitl [Hos]; · iexact Hos
  iexact Hts

/-- Before trip `k` of the collecting loop: `k` copies' credit taken, or, after the last, everything they leave. -/
def drained (d : Dev nD) (L : grid0.Coords) (fp : S128x256.Idx → Elt F .f32) (OUT : S196608x256.Idx → Elt F .f32)
    (O : CellTallies nD τ sig (HIx 1)) (W : Waits sig (HIx 1)) (k : ℕ) : sProp (Res F) :=
  iprop(Transfers.MayWaits (V d (cV L) (jV L)) (default : HIx 1) O
    ∗ (∃ W', ⌜∀ p ∈ W', p ∈ W ∨ p.2 = none ∨ p.2 = some (0 : Fin 1)⌝ ∗ owes (V d (cV L) (jV L)) O W')
    ∗ (if k < k0_t5_loop.trips then xBatch d L fp OUT k0_t2_loop.trips (k * 1048576)
       else iprop(semVal (V d (cV L) (jV L), SemLoc.dma cc0_scratch6.sem) 0 ∗ bigSep Finset.univ (xD d L fp OUT))))

/-- One trip of the collecting loop. -/
theorem t5_step (d : Dev nD) (L : grid0.Coords) (fp : S128x256.Idx → Elt F .f32) (OUT : S196608x256.Idx → Elt F .f32)
    (O : CellTallies nD τ sig (HIx 1)) (W : Waits sig (HIx 1)) (v1 c : BitVec 32) (k : Fin k0_t5_loop.trips) (acc : BitVec 32) :
    drained d L fp OUT O W k.val ⊢ wp frame (wpE (defs₀ (F := F)) 𝒱₀ (V d (cV L) (jV L)) none) Set.univ
      (k0_t5_body L xM (Memref.isWhole_whole _) yM (Memref.isWhole_whole _) zM (Memref.isWhole_whole _) oM (Memref.isWhole_whole _)
        xB (Memref.isWhole_whole _) yB (Memref.isWhole_whole _) zB (Memref.isWhole_whole _) pB (Memref.isWhole_whole _)
        qB (Memref.isWhole_whole _) sM (Memref.isWhole_whole _) cc0_scratch6 cc0_scratch7 cc0_scoped0 cc0_scoped1 cc0_scoped2 cc0_scoped3
        v1 c k acc)
      fun _ => drained d L fp OUT O W (k.val + 1) := by
  have hk := k.isLt
  have e5 : k0_t5_loop.trips = 16 := by decide
  have e2 : k0_t2_loop.trips = 16 := by decide
  unfold k0_t5_body drained
  simp only [if_pos hk]
  rcases Nat.lt_or_ge (k.val + 1) k0_t5_loop.trips with h1 | h1
  · simp only [if_pos h1]
    iintro ⟨#Hmw, ⟨%W', %hW, HO⟩, HB⟩
    sl_exec
    sl_step
    isplitr; · iexact Hmw
    isplitl [HO]
    · iexists _; isplitr; swap; · iexact HO
      ipureintro; intro p hp
      rcases Finset.mem_insert.mp hp with hp | hp; · exact .inr (.inl (hp ▸ rfl))
      exact hW p hp
    rw [show (k.val + 1) * 1048576 = k.val * 1048576 + 1048576 by omega]
    iexact HB
  · simp only [if_neg (Nat.not_lt.mpr h1)]
    iintro ⟨#Hmw, ⟨%W', %hW, HO⟩, HB⟩
    sl_exec
    sl_step
    isplitr; · iexact Hmw
    isplitl [HO]
    · iexists _; isplitr; swap; · iexact HO
      ipureintro; intro p hp
      rcases Finset.mem_insert.mp hp with hp | hp; · exact .inr (.inl (hp ▸ rfl))
      exact hW p hp
    isplitl [HB]; · iexact HB
    iexact HB_all

end Loops

end Cert.Proof

end
-- ==== Proof.Image.lean ====
/-
  The shared image: its chunks and halves, the blocks of the result that each subcore writes, and what each part holds
  where the copies put it.
-/
module

public import proofs.«01_k».proof.Proof.Send

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

/-! ## The shared image's parts -/

/-- Rows of the image. -/
abbrev imgRows (r n : ℕ) : Finset S2048x256.Idx := rowsIn 2048 r n
/-- A window of whole rows of the image covers those rows. -/
theorem img_of_rect {n r : ℕ} {off : Fin 2 → ℕ} (hoff : off = ![r, 0]) (inb) :
    ((sM).view.slice (Rect.unit (s := S2048x256) off ![n, 256] inb)).set = imgRows r n :=
  (View.set_slice_whole _ _).trans (rect_rows hoff inb)

/-- A subcore's own chunk of the image, as the kernel addresses it. -/
def sC (L : grid0.Coords) : Memref sig .scVector .shared S128x256 .f32 :=
  (sM).slice (Rect.unit (s := S2048x256) (k0_off98 L) S128x256.size (k0_off98_inb L)) (fun _ => rfl)
/-- It covers 128 rows of the image. -/
theorem set_sC (L : grid0.Coords) : (sC L).view.set = imgRows (128 * (L 1).val) 128 := img_of_rect (k0_off98_eq L) _
/-- The image's first half, the second table's, and -/
def sLow : Memref sig .scVector .shared S1024x256 .f32 :=
  (sM).slice (Rect.unit (s := S2048x256) ![0, 0] S1024x256.size inb_S2048x256_S1024x256_0_0) (fun _ => rfl)
/-- It covers the image's first 1024 rows. -/
theorem set_sLow : sLow.view.set = imgRows 0 1024 := img_of_rect rfl _
/-- its second half, the third table's. -/
def sHigh : Memref sig .scVector .shared S1024x256 .f32 :=
  (sM).slice (Rect.unit (s := S2048x256) ![1024, 0] S1024x256.size inb_S2048x256_S1024x256_1024_0) (fun _ => rfl)
/-- It covers the image's last 1024 rows. -/
theorem set_sHigh : sHigh.view.set = imgRows 1024 1024 := img_of_rect rfl _

/-- A subcore's rows of the result: one block in thirty-two. -/
def tileRows (w : ℕ) : Finset S196608x256.Idx := Finset.univ.filter fun y => (y 0).val / 1024 % 32 = w
/-- Being one of a subcore's rows. -/
theorem mem_tileRows {w : ℕ} {y : S196608x256.Idx} : y ∈ tileRows w ↔ (y 0).val / 1024 % 32 = w := by
  simp only [tileRows, Finset.mem_filter, Finset.mem_univ, true_and]
/-- A SparseCore's rows of the result: every other block. -/
def coreRows (c : ℕ) : Finset S196608x256.Idx := Finset.univ.filter fun y => (y 0).val / 1024 % 2 = c
/-- Being one of a SparseCore's rows. -/
theorem mem_coreRows {c : ℕ} {y : S196608x256.Idx} : y ∈ coreRows c ↔ (y 0).val / 1024 % 2 = c := by
  simp only [coreRows, Finset.mem_filter, Finset.mem_univ, true_and]

/-- Two sets of rows apart. -/
theorem rowsIn_disjoint {N r n r' n' : ℕ} (h : r + n ≤ r' ∨ r' + n' ≤ r) : Disjoint (rowsIn N r n) (rowsIn N r' n') := by
  rw [Finset.disjoint_left]
  intro y hy hy'
  rw [mem_rowsIn] at hy hy'
  omega

/-- What one subcore writes: sixteen blocks of 128 rows and four of 1024. -/
def part (L : grid0.Coords) : Fin k0_t2_loop.trips ⊕ Fin 4 → Finset S196608x256.Idx
  | .inl t => rowsOf (rowX L t.val) 128
  | .inr k => rowsOf (rowYZ L k) 1024

/-- The four blocks' first rows. -/
theorem rowYZ_cases (L : grid0.Coords) : ∀ k : Fin 4, (k.val = 0 ∧ rowYZ L k = (32 + (2 * (L 1).val + (L 0).val)) * 1024)
    ∨ (k.val = 1 ∧ rowYZ L k = (128 + (2 * (L 1).val + (L 0).val)) * 1024) ∨ (k.val = 2 ∧ rowYZ L k = (64 + (2 * (L 1).val + (L 0).val)) * 1024)
    ∨ (k.val = 3 ∧ rowYZ L k = (160 + (2 * (L 1).val + (L 0).val)) * 1024)
  | 0 => .inl ⟨rfl, rfl⟩
  | 1 => .inr (.inl ⟨rfl, rfl⟩)
  | 2 => .inr (.inr (.inl ⟨rfl, rfl⟩))
  | 3 => .inr (.inr (.inr ⟨rfl, rfl⟩))

/-- The sending loop has sixteen trips. -/
theorem t2_trips : k0_t2_loop.trips = 16 := by decide

/-- No two of the blocks share a row; -/
theorem part_disjoint (L : grid0.Coords) : ∀ a ∈ (Finset.univ : Finset (Fin k0_t2_loop.trips ⊕ Fin 4)), ∀ b ∈ (Finset.univ : Finset (Fin k0_t2_loop.trips ⊕ Fin 4)),
    a ≠ b → Disjoint (part L a) (part L b) := by
  have h0 : (L 0).val < 2 := (L 0).isLt
  have h1 : (L 1).val < 16 := (L 1).isLt
  have e2 := t2_trips
  rintro (t | k) - (t' | k') - hne
  · have ht := t.isLt; have ht' := t'.isLt
    have : t.val ≠ t'.val := fun h => hne (congrArg Sum.inl (Fin.ext h))
    refine rowsIn_disjoint ?_
    simp only [rowX]; omega
  · have ht := t.isLt; have hk := rowYZ_cases L k'
    refine rowsIn_disjoint ?_
    simp only [rowX]; omega
  · have ht := t'.isLt; have hk := rowYZ_cases L k
    refine rowsIn_disjoint ?_
    simp only [rowX]; omega
  · have hk := rowYZ_cases L k; have hk' := rowYZ_cases L k'
    have : k.val ≠ k'.val := fun h => hne (congrArg Sum.inr (Fin.ext h))
    refine rowsIn_disjoint ?_
    omega

/-- together they are its rows of the result. -/
theorem part_cover (L : grid0.Coords) : (Finset.univ : Finset (Fin k0_t2_loop.trips ⊕ Fin 4)).biUnion (part L) = tileRows (2 * (L 1).val + (L 0).val) := by
  have h0 : (L 0).val < 2 := (L 0).isLt
  have h1 : (L 1).val < 16 := (L 1).isLt
  have e2 := t2_trips
  ext y
  have hy : (y 0).val < 196608 := (y 0).isLt
  rw [mem_tileRows, Finset.mem_biUnion]
  constructor
  · rintro ⟨t | k, -, h⟩
    · have ht := t.isLt
      have h := mem_rowsIn.mp h
      simp only [rowX] at h; omega
    · have h := mem_rowsIn.mp h; have hk := rowYZ_cases L k
      omega
  · intro h
    have yz := fun (k : Fin 4) (hk : rowYZ L k ≤ (y 0).val ∧ (y 0).val < rowYZ L k + 1024) =>
      (⟨.inr k, Finset.mem_univ _, mem_rowsIn.mpr hk⟩ : ∃ a, a ∈ (Finset.univ : Finset (Fin k0_t2_loop.trips ⊕ Fin 4)) ∧ y ∈ part L a)
    have hq : (y 0).val / 32768 < 6 := by omega
    have xs := fun (t : ℕ) (ht : t < 16) (hk : rowX L t ≤ (y 0).val ∧ (y 0).val < rowX L t + 128) =>
      (⟨.inl ⟨t, by omega⟩, Finset.mem_univ _, mem_rowsIn.mpr hk⟩ : ∃ a, a ∈ (Finset.univ : Finset (Fin k0_t2_loop.trips ⊕ Fin 4)) ∧ y ∈ part L a)
    rcases (show (y 0).val / 32768 = 0 ∨ (y 0).val / 32768 = 1 ∨ (y 0).val / 32768 = 2 ∨ (y 0).val / 32768 = 3 ∨ (y 0).val / 32768 = 4
      ∨ (y 0).val / 32768 = 5 by omega) with e | e | e | e | e | e
    · refine xs ((y 0).val % 1024 / 128) (by omega) ?_
      simp only [rowX]; omega
    · refine yz 0 ?_; show (_ + (2 * (L 1).val + (L 0).val)) * 1024 ≤ _ ∧ _ < (_ + (2 * (L 1).val + (L 0).val)) * 1024 + 1024; show (32 + _) * 1024 ≤ _ ∧ _ < (32 + _) * 1024 + 1024; omega
    · refine yz 2 ?_; show (_ + (2 * (L 1).val + (L 0).val)) * 1024 ≤ _ ∧ _ < (_ + (2 * (L 1).val + (L 0).val)) * 1024 + 1024; show (64 + _) * 1024 ≤ _ ∧ _ < (64 + _) * 1024 + 1024; omega
    · refine xs (8 + (y 0).val % 1024 / 128) (by omega) ?_
      simp only [rowX]; omega
    · refine yz 1 ?_; show (_ + (2 * (L 1).val + (L 0).val)) * 1024 ≤ _ ∧ _ < (_ + (2 * (L 1).val + (L 0).val)) * 1024 + 1024; show (128 + _) * 1024 ≤ _ ∧ _ < (128 + _) * 1024 + 1024; omega
    · refine yz 3 ?_; show (_ + (2 * (L 1).val + (L 0).val)) * 1024 ≤ _ ∧ _ < (_ + (2 * (L 1).val + (L 0).val)) * 1024 + 1024; show (160 + _) * 1024 ≤ _ ∧ _ < (160 + _) * 1024 + 1024; omega

/-! ## What the parts hold -/

section Values

variable {α : Type} (Tx Ty Tz : S32x256.Idx → α)

/-- Where the sending loop puts an element of the chunk. -/
theorem place_x (L : grid0.Coords) (t : Fin k0_t2_loop.trips) (x : S128x256.Idx) (y : S196608x256.Idx) (hy : y = (oX L t).view.emb x) :
    (y 0).val = rowX L t.val + (x 0).val ∧ (y 1).val = (x 1).val := by
  subst hy
  constructor
  · show k0_off33 L t 0 + 1 * (x 0).val = _
    rw [sendX, Nat.one_mul]; rfl
  · show k0_off33 L t 1 + 1 * (x 1).val = _
    rw [sendX, Nat.one_mul]; exact Nat.zero_add _
/-- Where the image's copies put an element of a half. -/
theorem place_yz (L : grid0.Coords) (k : Fin 4) (x : S1024x256.Idx) (y : S196608x256.Idx) (hy : y = (oYZ L k).view.emb x) :
    (y 0).val = rowYZ L k + (x 0).val ∧ (y 1).val = (x 1).val := by
  subst hy
  have ho : k0_off99 L (k0_off99_at k) = ![rowYZ L k, 0] := (congrArg (k0_off99 L) (show k0_off99_at k = BitVec.ofNat 32 ((![32, 128, 64, 160] : Fin 4 → ℕ) k) by
    fin_cases k <;> rfl)).trans (sendYZ L k)
  constructor
  · show k0_off99 L (k0_off99_at k) 0 + 1 * (x 0).val = _
    rw [ho, Nat.one_mul]; rfl
  · show k0_off99 L (k0_off99_at k) 1 + 1 * (x 1).val = _
    rw [ho, Nat.one_mul]; exact Nat.zero_add _
/-- Where a subcore puts an element of its chunk in the image. -/
theorem place_c (L : grid0.Coords) (x : S128x256.Idx) (y : S2048x256.Idx) (hy : y = (sC L).view.emb x) :
    (y 0).val = 128 * (L 1).val + (x 0).val ∧ (y 1).val = (x 1).val := by
  subst hy
  constructor
  · show k0_off98 L 0 + 1 * (x 0).val = _
    rw [k0_off98_eq, Nat.one_mul]; rfl
  · show k0_off98 L 1 + 1 * (x 1).val = _
    rw [k0_off98_eq, Nat.one_mul]; exact Nat.zero_add _
/-- Where an element of the first half stands in the image, -/
theorem place_low (x : S1024x256.Idx) (y : S2048x256.Idx) (hy : y = sLow.view.emb x) : (y 0).val = (x 0).val ∧ (y 1).val = (x 1).val := by
  subst hy
  exact ⟨show 0 + 1 * (x 0).val = (x 0).val by omega, show 0 + 1 * (x 1).val = (x 1).val by omega⟩
/-- and an element of the second. -/
theorem place_high (x : S1024x256.Idx) (y : S2048x256.Idx) (hy : y = sHigh.view.emb x) : (y 0).val = 1024 + (x 0).val ∧ (y 1).val = (x 1).val := by
  subst hy
  exact ⟨show 1024 + 1 * (x 0).val = 1024 + (x 0).val by omega, show 0 + 1 * (x 1).val = (x 1).val by omega⟩

/-- The first-table chunk is what the result holds wherever the sending loop puts it. -/
theorem sent_value (L : grid0.Coords) (t : Fin k0_t2_loop.trips) (x : S128x256.Idx) :
    xG Tx (2 * (L 1).val + (L 0).val) x = outG Tx Ty Tz ((oX L t).view.emb x) := by
  have h0 : (L 0).val < 2 := (L 0).isLt
  have h1 : (L 1).val < 16 := (L 1).isLt
  have e2 := t2_trips; have ht := t.isLt
  have hx : (x 0).val < 128 := (x 0).isLt
  have key : ∀ y : S196608x256.Idx, (y 0).val = rowX L t.val + (x 0).val → (y 1).val = (x 1).val →
      xG Tx (2 * (L 1).val + (L 0).val) x = outG Tx Ty Tz y := by
    intro y er ec
    simp only [rowX] at er
    have eq : (y 0).val / 1024 = 96 * (t.val / 8) + (2 * (L 1).val + (L 0).val) := by omega
    have ed : (y 0).val / 32768 % 3 = 0 := by
      rcases (show t.val / 8 = 0 ∨ t.val / 8 = 1 by omega) with g | g <;> rw [g] at er <;> omega
    unfold xG outG outRow
    rw [ec, if_pos ed, eq]
    exact tab_mod Tx _ (by omega)
  obtain ⟨er, ec⟩ := place_x L t x _ rfl
  exact key _ er ec

/-- The image's first half is what the result holds where the first two copies put it, -/
theorem low_value (L : grid0.Coords) (k : Fin 4) (hk : k.val < 2) (x : S1024x256.Idx) :
    shG Ty Tz (sLow.view.emb x) = outG Tx Ty Tz ((oYZ L k).view.emb x) := by
  have h0 : (L 0).val < 2 := (L 0).isLt
  have h1 : (L 1).val < 16 := (L 1).isLt
  have hx : (x 0).val < 1024 := (x 0).isLt
  obtain ⟨es, et⟩ := place_low x _ rfl
  obtain ⟨er, ec⟩ := place_yz L k x _ rfl
  have hr := rowYZ_cases L k
  unfold shG imgRow outG outRow
  rw [ec, es, et, if_pos hx, if_neg (by omega), if_pos (by omega)]
  exact tab_mod Ty _ (by omega)

/-- and its second half where the last two put it. -/
theorem high_value (L : grid0.Coords) (k : Fin 4) (hk : 2 ≤ k.val) (x : S1024x256.Idx) :
    shG Ty Tz (sHigh.view.emb x) = outG Tx Ty Tz ((oYZ L k).view.emb x) := by
  have h0 : (L 0).val < 2 := (L 0).isLt
  have h1 : (L 1).val < 16 := (L 1).isLt
  have hx : (x 0).val < 1024 := (x 0).isLt
  obtain ⟨es, et⟩ := place_high x _ rfl
  obtain ⟨er, ec⟩ := place_yz L k x _ rfl
  have hr := rowYZ_cases L k
  unfold shG imgRow outG outRow
  rw [ec, es, et, if_neg (by omega), if_neg (by omega), if_neg (by omega)]
  exact tab_mod Tz _ (by omega)

/-- A subcore's chunk is what the image holds where the subcore puts it. -/
theorem chunk_value (L : grid0.Coords) (x : S128x256.Idx) : cG Ty Tz (L 1).val x = shG Ty Tz ((sC L).view.emb x) := by
  obtain ⟨er, ec⟩ := place_c L x _ rfl
  unfold cG shG
  rw [er, ec]

/-- The chunk of one of the first eight subcores, -/
theorem chunk_low {s : ℕ} (hs : s < 8) (y : S128x256.Idx) : cG Ty Tz s y = tab Ty (4 * s + (y 0).val / 32) (y 1).val := by
  have hy : (y 0).val < 128 := (y 0).isLt
  unfold cG imgRow
  rw [if_pos (by omega)]
  exact tab_mod Ty _ (by omega)
/-- and of one of the last eight. -/
theorem chunk_high {s : ℕ} (hs : ¬ s < 8) (y : S128x256.Idx) : cG Ty Tz s y = tab Tz ((y 0).val % 32) (y 1).val := by
  have hy : (y 0).val < 128 := (y 0).isLt
  unfold cG imgRow
  rw [if_neg (by omega)]
  exact tab_mod Tz _ (by omega)

end Values

/-! ## The copies of the image -/

section Copies

variable {F : FTy → Type}

/-- SparseCore `c`'s shared scratch, as a device's buffer, -/
abbrev shRef (c : Fin τ.nSC) : DevRef τ sig := ⟨.shared, ⟨0, by decide⟩, c⟩
/-- and as device `d`'s. -/
abbrev shLoc (d : Dev nD) (c : Fin τ.nSC) : Loc nD τ sig := (d, shRef c)

/-- A subcore's chunk of the image, as the subcore addresses it and as rows of the image. -/
theorem pts_sC (d : Dev nD) (L : grid0.Coords) (q : PosShare TreeShare) (f : S2048x256.Idx → Elt F .f32) :
    ((sC L).view.loc (V d (cV L) (jV L)) ↦[(sC L).view.set]{q} f : sProp (Res F)) = shLoc d (cV L) ↦[imgRows (128 * (L 1).val) 128]{q} f := by
  rw [set_sC]; rfl
/-- The same of the first half, -/
theorem pts_sLow (d : Dev nD) (L : grid0.Coords) (q : PosShare TreeShare) (f : S2048x256.Idx → Elt F .f32) :
    (sLow.view.loc (V d (cV L) (jV L)) ↦[sLow.view.set]{q} f : sProp (Res F)) = shLoc d (cV L) ↦[imgRows 0 1024]{q} f := by
  rw [set_sLow]; rfl
/-- and of the second. -/
theorem pts_sHigh (d : Dev nD) (L : grid0.Coords) (q : PosShare TreeShare) (f : S2048x256.Idx → Elt F .f32) :
    (sHigh.view.loc (V d (cV L) (jV L)) ↦[sHigh.view.set]{q} f : sProp (Res F)) = shLoc d (cV L) ↦[imgRows 1024 1024]{q} f := by
  rw [set_sHigh]; rfl

/-- What copy `k` of the image is to leave: its block of the result as wanted, and the half it read, at its share, back. -/
def yzD (d : Dev nD) (L : grid0.Coords) (q : PosShare TreeShare) (IM : S2048x256.Idx → Elt F .f32) (OUT : S196608x256.Idx → Elt F .f32) : Fin 4 → sProp (Res F)
  | 0 => iprop((oLoc d ↦[rowsOf (rowYZ L 0) 1024]{fullShare} OUT) ∗ (shLoc d (cV L) ↦[imgRows 0 1024]{q.left} IM))
  | 1 => iprop((oLoc d ↦[rowsOf (rowYZ L 1) 1024]{fullShare} OUT) ∗ (shLoc d (cV L) ↦[imgRows 0 1024]{q.right} IM))
  | 2 => iprop((oLoc d ↦[rowsOf (rowYZ L 2) 1024]{fullShare} OUT) ∗ (shLoc d (cV L) ↦[imgRows 1024 1024]{q.left} IM))
  | 3 => iprop((oLoc d ↦[rowsOf (rowYZ L 3) 1024]{fullShare} OUT) ∗ (shLoc d (cV L) ↦[imgRows 1024 1024]{q.right} IM))
/-- A semaphore may keep that for the wait. -/
instance yzD_storable (d : Dev nD) (L : grid0.Coords) (q : PosShare TreeShare) (IM : S2048x256.Idx → Elt F .f32) (OUT : S196608x256.Idx → Elt F .f32) :
    ∀ k, Storable (upEmb : UEmb _ (Res F)) (yzD d L q IM OUT k)
  | 0 => by unfold yzD; infer_instance
  | 1 => by unfold yzD; infer_instance
  | 2 => by unfold yzD; infer_instance
  | 3 => by unfold yzD; infer_instance

/-- The image's copies, `j` of them begun and `u` of their credit taken. -/
abbrev yzBatch (d : Dev nD) (L : grid0.Coords) (q : PosShare TreeShare) (IM : S2048x256.Idx → Elt F .f32) (OUT : S196608x256.Idx → Elt F .f32) (j u : ℕ) : sProp (Res F) :=
  Transfers.Batch EC (V d (cV L) (jV L)) (.dma cc0_scratch7.sem) (default : HIx 1) 8388608 (yzD d L q IM OUT) j u

/-- The image held whole at a share is each half held at that share's two halves. -/
theorem image_halves (ℓ : Loc nD τ sig) (q : PosShare TreeShare) (I J : Finset (Idx ℓ)) (hd : Disjoint I J) (hu : I ∪ J = Finset.univ) (f : Buf (Elt F) ℓ) :
    (ℓ ↦{q} f : sProp (Res F)) = iprop(((ℓ ↦[I]{q.left} f) ∗ ℓ ↦[I]{q.right} f) ∗ (ℓ ↦[J]{q.left} f) ∗ ℓ ↦[J]{q.right} f) := by
  have h := fun (I : Finset (Idx ℓ)) => BI.Entails.antisymm (pointsTo_share (ℓ := ℓ) (I := I) (f := f) (Ix := HIx 1) (Name := ℕ) (U := UU) (Lvl := ℕ) (PosShare.mem_left_op_right q)).1 (pointsTo_share (PosShare.mem_left_op_right q)).2
  rw [← hu, BI.Entails.antisymm (pointsTo_union hd).1 (pointsTo_union hd).2, h I, h J]

end Copies

end Cert.Proof

end
-- ==== Proof.Fill.lean ====
/-
  A chunk of 128 rows filled row by row, each row in sixteen writes of sixteen elements: with a row of the first table, or
  with rows of the second or the third.
-/
module

public import proofs.«01_k».proof.Proof.Setup

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

/-! ## Rows written sixteen elements at a time -/

section Pieces

variable {Val : EltTy → Type}

/-- The vector is sixteen elements, from column `16 q` on, of a row given by `row`. -/
def Lane {α : Type} (row : ℕ → α) (q : ℕ) (v : S16.Idx → α) : Prop := ∀ x, v x = row (16 * q + (x 0).val)
/-- So is the one-row block. -/
def Lane1 {α : Type} (row : ℕ → α) (q : ℕ) (v : S1x16.Idx → α) : Prop := ∀ x, v x = row (16 * q + (x 1).val)

/-- Dropping the unit axis keeps the elements, -/
theorem Lane1.drop {α : Type} {row : ℕ → α} {q : ℕ} {v : S1x16.Idx → α} (h : Lane1 row q v) : Lane row q (shapeCast S16 v shapeCasts_S1x16_S16) := by
  intro x
  rw [show shapeCast S16 v shapeCasts_S1x16_S16 x = v (Fin.cons ⟨0, Nat.one_pos⟩ x) from Idealize.ShloMosaic.shapeCast_dropUnit_apply ![16] v _ x, h]
  rfl
/-- and so does adding it. -/
theorem Lane.add {α : Type} {row : ℕ → α} {q : ℕ} {v : S16.Idx → α} (h : Lane row q v) : Lane1 row q (shapeCast S1x16 v shapeCasts_S16_S1x16) := by
  intro x
  rw [show shapeCast S1x16 v shapeCasts_S16_S1x16 x = v (fun a => x a.succ) from shapeCast_addUnit_apply ![16] v _ x]
  exact h _

/-- A write of sixteen elements into row `r` from column `16 q` on, of what `G` holds there. -/
structure Chunk (G : S128x256.Idx → Val .f32) (r q : ℕ) (p : View.Piece Val S128x256 .f32) : Prop where
  mem : ∀ y, y ∈ p.1.set ↔ (y 0).val = r ∧ 16 * q ≤ (y 1).val ∧ (y 1).val < 16 * q + 16
  val : ∀ x, p.2 x = G (p.1.emb x)

/-- A write of sixteen right elements, at the place the kernel computes, is such a write. -/
theorem Chunk.of {G : S128x256.Idx → Val .f32} {r q : ℕ} {row : ℕ → Val .f32} (hG : ∀ y, (y 0).val = r → G y = row (y 1).val)
    {off : Fin 2 → ℕ} (hoff : off = ![r, 16 * q]) (inb) (w : S1x16.Idx → Val .f32) (hw : Lane1 row q w) :
    Chunk G r q ⟨Rect.unit (s := S128x256) off S1x16.size inb, w⟩ := by
  subst hoff
  refine ⟨fun y => ?_, fun x => ?_⟩
  · rw [Rect.mem_set_unit]
    constructor
    · intro h
      have h0 : r ≤ (y 0).val ∧ (y 0).val < r + 1 := h 0
      have h1 : 16 * q ≤ (y 1).val ∧ (y 1).val < 16 * q + 16 := h 1
      omega
    · rintro ⟨h0, h1⟩ a
      match a with
      | 0 => show r ≤ (y 0).val ∧ (y 0).val < r + 1; omega
      | 1 => exact h1
  · have hx : (x 0).val < 1 := (x 0).isLt
    rw [hG _ (show r + 1 * (x 0).val = r by omega)]
    show w x = row (16 * q + 1 * (x 1).val)
    rw [Nat.one_mul]; exact hw x

/-- Sixteen such writes, one for each run of columns, complete row `r`: a buffer right on the rows before is right on row
    `r` too. -/
theorem row_done {κ : Kind} {sp : Space} {sg : RefSig} (v : View sg κ sp S128x256 .f32) (f : v.ty.Contents Val) (G : S128x256.Idx → Val .f32) (r : ℕ)
    (L : List (View.Piece Val S128x256 .f32)) (hL : List.Forall₂ (fun p q => Chunk G r q p) L [15, 14, 13, 12, 11, 10, 9, 8, 7, 6, 5, 4, 3, 2, 1, 0])
    (hf : ∀ y, (y 0).val < r → v.read Val f y = G y) (y : S128x256.Idx) (hy : (y 0).val < r + 1) : v.read Val (v.writes Val f L) y = G y := by
  have key : ∀ (L : List (View.Piece Val S128x256 .f32)) (M : List ℕ), List.Forall₂ (fun p q => Chunk G r q p) L M →
      (∀ p ∈ L, ∃ q, Chunk G r q p) ∧ ∀ q ∈ M, ∃ p ∈ L, Chunk G r q p := by
    intro L M h
    induction h with
    | nil => exact ⟨fun _ h => absurd h List.not_mem_nil, fun _ h => absurd h List.not_mem_nil⟩
    | cons h _ ih =>
      refine ⟨fun p hp => ?_, fun q hq => ?_⟩
      · rcases List.mem_cons.mp hp with rfl | hp
        · exact ⟨_, h⟩
        · exact ih.1 p hp
      · rcases List.mem_cons.mp hq with rfl | hq
        · exact ⟨_, List.mem_cons_self, h⟩
        · obtain ⟨p, hp, hc⟩ := ih.2 q hq
          exact ⟨p, List.mem_cons_of_mem _ hp, hc⟩
  obtain ⟨hall, hcov⟩ := key _ _ hL
  have h1 : (y 1).val < 256 := (y 1).isLt
  by_cases hr : (y 0).val = r
  · refine View.read_writes_apply_of_pieces v f G L (fun p hp x => ?_) y ?_
    · obtain ⟨q, hq⟩ := hall p hp; exact hq.val x
    · have hq : (y 1).val / 16 ∈ [15, 14, 13, 12, 11, 10, 9, 8, 7, 6, 5, 4, 3, 2, 1, 0] := by
        have : (y 1).val / 16 < 16 := by omega
        revert this; generalize (y 1).val / 16 = n; intro hn
        interval_cases n <;> decide
      obtain ⟨p, hp, hc⟩ := hcov _ hq
      exact ⟨p, hp, (hc.mem y).mpr ⟨hr, by omega, by omega⟩⟩
  · rw [View.read_writes_apply_of_forall_not_mem v f y L fun p hp h => ?_]
    · exact hf y (by omega)
    · obtain ⟨q, hq⟩ := hall p hp
      exact hr ((hq.mem y).mp h).1

end Pieces

section Loops

variable {F : FTy → Type} [FloatOps F] [∀ e, Nonempty (Elt F e)]

/-- A subcore's chunk buffer, its first `k` rows those of `G`. -/
def rowsDone (d : Dev nD) (L : grid0.Coords) (b : Memref sig .scVector .vmem S128x256 .f32) (G : S128x256.Idx → Elt F .f32) (k : ℕ) : sProp (Res F) :=
  iprop(∃ f, ⌜∀ y, (y 0).val < k → b.view.read (Elt F) f y = G y⌝ ∗ b.view.loc (V d (cV L) (jV L)) ↦{fullShare} f)

/-- One trip of the first loop completes one more row: the sixteen vectors it writes are the row's runs of columns. -/
theorem t1_step (d : Dev nD) (L : grid0.Coords) (G : S128x256.Idx → Elt F .f32) (row : ℕ → Elt F .f32) (hG : ∀ y, G y = row (y 1).val)
    (arg1 v1 : BitVec 32) (v4 v7 v10 v13 v16 v19 v22 v25 v28 v31 v34 v37 : FVec F S16 .f32) (v39 v42 v45 v48 : FVec F S1x16 .f32)
    (h4 : Lane row 0 v4) (h7 : Lane row 1 v7) (h10 : Lane row 2 v10) (h13 : Lane row 3 v13) (h16 : Lane row 4 v16) (h19 : Lane row 5 v19)
    (h22 : Lane row 6 v22) (h25 : Lane row 7 v25) (h28 : Lane row 8 v28) (h31 : Lane row 9 v31) (h34 : Lane row 10 v34) (h37 : Lane row 11 v37)
    (h39 : Lane1 row 12 v39) (h42 : Lane1 row 13 v42) (h45 : Lane1 row 14 v45) (h48 : Lane1 row 15 v48)
    (k : Fin k0_t1_loop.trips) (acc : BitVec 32) :
    rowsDone d L pB G k.val ⊢ wp frame (wpE (defs₀ (F := F)) 𝒱₀ (V d (cV L) (jV L)) none) Set.univ
      (k0_t1_body L xM (Memref.isWhole_whole _) yM (Memref.isWhole_whole _) zM (Memref.isWhole_whole _) oM (Memref.isWhole_whole _)
        xB (Memref.isWhole_whole _) yB (Memref.isWhole_whole _) zB (Memref.isWhole_whole _) pB (Memref.isWhole_whole _)
        qB (Memref.isWhole_whole _) sM (Memref.isWhole_whole _) cc0_scratch6 cc0_scratch7 cc0_scoped0 cc0_scoped1 cc0_scoped2 cc0_scoped3
        arg1 v1 v4 v7 v10 v13 v16 v19 v22 v25 v28 v31 v34 v37 v39 v42 v45 v48 k acc)
      fun _ => rowsDone d L pB G (k.val + 1) := by
  unfold k0_t1_body
  rw [k0_part1_eq_skeleton]; unfold k0_part1_skel
  unfold rowsDone
  iintro ⟨%f, %hf, H⟩
  sl_exec
  sl_step
  iexists _
  isplitr; swap; · iexact H
  ipureintro
  refine row_done (pB).view f G k.val _ ?_ hf
  have c := fun (q : ℕ) {off : Fin 2 → ℕ} (hoff : off = ![k.val, 16 * q]) inb w (hw : Lane1 row q w) =>
    Chunk.of (Val := Elt F) (fun y (_ : (y 0).val = k.val) => hG y) hoff inb w hw
  exact .cons (c 15 (k0_off32_eq k) _ _ h48.drop.add) <| .cons (c 14 (k0_off31_eq k) _ _ h45.drop.add) <|
    .cons (c 13 (k0_off30_eq k) _ _ h42.drop.add) <| .cons (c 12 (k0_off29_eq k) _ _ h39.drop.add) <|
    .cons (c 11 (k0_off28_eq k) _ _ h37.add) <| .cons (c 10 (k0_off27_eq k) _ _ h34.add) <|
    .cons (c 9 (k0_off26_eq k) _ _ h31.add) <| .cons (c 8 (k0_off25_eq k) _ _ h28.add) <|
    .cons (c 7 (k0_off24_eq k) _ _ h25.add) <| .cons (c 6 (k0_off23_eq k) _ _ h22.add) <|
    .cons (c 5 (k0_off22_eq k) _ _ h19.add) <| .cons (c 4 (k0_off21_eq k) _ _ h16.add) <|
    .cons (c 3 (k0_off20_eq k) _ _ h13.add) <| .cons (c 2 (k0_off19_eq k) _ _ h10.add) <|
    .cons (c 1 (k0_off18_eq k) _ _ h7.add) <| .cons (c 0 (k0_off17_eq k) _ _ h4.add) .nil

/-- A chunk buffer whose first `k` rows are done, beside a table's copy to read from. -/
def rowsFrom (d : Dev nD) (L : grid0.Coords) (t : Memref sig .scVector .vmem S32x256 .f32) (T : t.view.ty.Contents (Elt F))
    (b : Memref sig .scVector .vmem S128x256 .f32) (G : S128x256.Idx → Elt F .f32) (k : ℕ) : sProp (Res F) :=
  iprop((t.view.loc (V d (cV L) (jV L)) ↦{fullShare} T) ∗ ∃ f, ⌜∀ y, (y 0).val < k → b.view.read (Elt F) f y = G y⌝ ∗ b.view.loc (V d (cV L) (jV L)) ↦{fullShare} f)

/-- Sixteen elements loaded from row `r` of a table, from column `16 q` on. -/
theorem Lane1.load {b : Memref sig .scVector .vmem S32x256 .f32} {f : b.view.ty.Contents (Elt F)} {T : S32x256.Idx → Elt F .f32}
    (hT : ∀ y, b.view.read (Elt F) f y = T y) {off : Fin 2 → ℕ} {r q : ℕ} (h0 : off 0 = r) (h1 : off 1 = 16 * q) (inb) :
    Lane1 (tab T r) q (b.view.readAt (Elt F) (Rect.unit (s := S32x256) off S1x16.size inb).toLoadRect f) := by
  intro x
  rw [View.readAt_apply, hT, ← tab_idx T]
  have hx : (x 0).val < 1 := (x 0).isLt
  show tab T (off 0 + 1 * (x 0).val) (off 1 + 1 * (x 1).val) = tab T r (16 * q + (x 1).val)
  rw [h0, h1, show r + 1 * (x 0).val = r by omega, Nat.one_mul]

/-- One trip of the fill loop of the first eight subcores: row `k` of the chunk, out of the second table. -/
theorem t3_step (d : Dev nD) (L : grid0.Coords) (T : S32x256.Idx → Elt F .f32) (G : S128x256.Idx → Elt F .f32)
    (hG : ∀ y, G y = tab T (4 * (L 1).val + (y 0).val / 32) (y 1).val)
    (arg1 v1 : BitVec 32) (v4 v7 v10 v13 v16 v19 v22 v25 v28 v31 v34 v37 : FVec F S16 .f32) (h1 : k0_cond1 L = 1#1)
    (k : Fin k0_t3_loop.trips) (acc : BitVec 32) :
    rowsFrom d L yB T qB G k.val ⊢ wp frame (wpE (defs₀ (F := F)) 𝒱₀ (V d (cV L) (jV L)) none) Set.univ
      (k0_t3_body L xM (Memref.isWhole_whole _) yM (Memref.isWhole_whole _) zM (Memref.isWhole_whole _) oM (Memref.isWhole_whole _)
        xB (Memref.isWhole_whole _) yB (Memref.isWhole_whole _) zB (Memref.isWhole_whole _) pB (Memref.isWhole_whole _)
        qB (Memref.isWhole_whole _) sM (Memref.isWhole_whole _) cc0_scratch6 cc0_scratch7 cc0_scoped0 cc0_scoped1 cc0_scoped2 cc0_scoped3
        arg1 v1 v4 v7 v10 v13 v16 v19 v22 v25 v28 v31 v34 v37 h1 k acc)
      fun _ => rowsFrom d L yB T qB G (k.val + 1) := by
  unfold k0_t3_body
  rw [k0_part2_eq_skeleton, k0_part3_eq_skeleton]; unfold k0_part2_skel k0_part3_skel
  unfold rowsFrom
  iintro ⟨HT, %f, %hf, H⟩
  sl_exec
  sl_step
  isplitl [HT]; · iexact HT
  iexists _
  isplitr; swap; · iexact H
  ipureintro
  refine row_done (qB).view f G k.val _ ?_ hf
  have c := fun (q : ℕ) {off : Fin 2 → ℕ} (src : Fin 2 → ℕ) (hoff : off = ![k.val, 16 * q]) inb (row : src 0 = 4 * (L 1).val + k.val / 32)
      (hsrc : src 1 = 16 * q) inb' => Chunk.of (Val := Elt F) (G := G) (fun y (hy : (y 0).val = k.val) => by rw [hG, hy]) hoff inb _
    ((Lane1.load (b := yB) (f := T) (T := T) (fun _ => rfl) row hsrc inb').drop.add)
  exact .cons (c 15 (k0_off64 L k) (k0_off65_eq k) _ (rowY L k) rfl _) <| .cons (c 14 (k0_off62 L k) (k0_off63_eq k) _ (rowY L k) rfl _) <|
    .cons (c 13 (k0_off60 L k) (k0_off61_eq k) _ (rowY L k) rfl _) <| .cons (c 12 (k0_off58 L k) (k0_off59_eq k) _ (rowY L k) rfl _) <|
    .cons (c 11 (k0_off56 L k) (k0_off57_eq k) _ (rowY L k) rfl _) <| .cons (c 10 (k0_off54 L k) (k0_off55_eq k) _ (rowY L k) rfl _) <|
    .cons (c 9 (k0_off52 L k) (k0_off53_eq k) _ (rowY L k) rfl _) <| .cons (c 8 (k0_off50 L k) (k0_off51_eq k) _ (rowY L k) rfl _) <|
    .cons (c 7 (k0_off48 L k) (k0_off49_eq k) _ (rowY L k) rfl _) <| .cons (c 6 (k0_off46 L k) (k0_off47_eq k) _ (rowY L k) rfl _) <|
    .cons (c 5 (k0_off44 L k) (k0_off45_eq k) _ (rowY L k) rfl _) <| .cons (c 4 (k0_off42 L k) (k0_off43_eq k) _ (rowY L k) rfl _) <|
    .cons (c 3 (k0_off40 L k) (k0_off41_eq k) _ (rowY L k) rfl _) <| .cons (c 2 (k0_off38 L k) (k0_off39_eq k) _ (rowY L k) rfl _) <|
    .cons (c 1 (k0_off36 L k) (k0_off37_eq k) _ (rowY L k) rfl _) <| .cons (c 0 (k0_off34 L k) (k0_off35_eq k) _ (rowY L k) rfl _) .nil

/-- One trip of the fill loop of the other eight subcores: row `k` of the chunk, out of the third table. -/
theorem t4_step (d : Dev nD) (L : grid0.Coords) (T : S32x256.Idx → Elt F .f32) (G : S128x256.Idx → Elt F .f32)
    (hG : ∀ y, G y = tab T ((y 0).val % 32) (y 1).val)
    (arg1 v1 : BitVec 32) (v4 v7 v10 v13 v16 v19 v22 v25 v28 v31 v34 v37 : FVec F S16 .f32) (h1 : ¬ k0_cond1 L = 1#1)
    (k : Fin k0_t4_loop.trips) (acc : BitVec 32) :
    rowsFrom d L zB T qB G k.val ⊢ wp frame (wpE (defs₀ (F := F)) 𝒱₀ (V d (cV L) (jV L)) none) Set.univ
      (k0_t4_body L xM (Memref.isWhole_whole _) yM (Memref.isWhole_whole _) zM (Memref.isWhole_whole _) oM (Memref.isWhole_whole _)
        xB (Memref.isWhole_whole _) yB (Memref.isWhole_whole _) zB (Memref.isWhole_whole _) pB (Memref.isWhole_whole _)
        qB (Memref.isWhole_whole _) sM (Memref.isWhole_whole _) cc0_scratch6 cc0_scratch7 cc0_scoped0 cc0_scoped1 cc0_scoped2 cc0_scoped3
        arg1 v1 v4 v7 v10 v13 v16 v19 v22 v25 v28 v31 v34 v37 h1 k acc)
      fun _ => rowsFrom d L zB T qB G (k.val + 1) := by
  unfold k0_t4_body
  rw [k0_part4_eq_skeleton, k0_part5_eq_skeleton]; unfold k0_part4_skel k0_part5_skel
  unfold rowsFrom
  iintro ⟨HT, %f, %hf, H⟩
  sl_exec
  sl_step
  isplitl [HT]; · iexact HT
  iexists _
  isplitr; swap; · iexact H
  ipureintro
  refine row_done (qB).view f G k.val _ ?_ hf
  have c := fun (q : ℕ) {off : Fin 2 → ℕ} (src : Fin 2 → ℕ) (hoff : off = ![k.val, 16 * q]) inb (row : src 0 = k.val % 32)
      (hsrc : src 1 = 16 * q) inb' => Chunk.of (Val := Elt F) (G := G) (fun y (hy : (y 0).val = k.val) => by rw [hG, hy]) hoff inb _
    ((Lane1.load (b := zB) (f := T) (T := T) (fun _ => rfl) row hsrc inb').drop.add)
  exact .cons (c 15 (k0_off96 k) (k0_off97_eq k) _ (rowZ k) rfl _) <| .cons (c 14 (k0_off94 k) (k0_off95_eq k) _ (rowZ k) rfl _) <|
    .cons (c 13 (k0_off92 k) (k0_off93_eq k) _ (rowZ k) rfl _) <| .cons (c 12 (k0_off90 k) (k0_off91_eq k) _ (rowZ k) rfl _) <|
    .cons (c 11 (k0_off88 k) (k0_off89_eq k) _ (rowZ k) rfl _) <| .cons (c 10 (k0_off86 k) (k0_off87_eq k) _ (rowZ k) rfl _) <|
    .cons (c 9 (k0_off84 k) (k0_off85_eq k) _ (rowZ k) rfl _) <| .cons (c 8 (k0_off82 k) (k0_off83_eq k) _ (rowZ k) rfl _) <|
    .cons (c 7 (k0_off80 k) (k0_off81_eq k) _ (rowZ k) rfl _) <| .cons (c 6 (k0_off78 k) (k0_off79_eq k) _ (rowZ k) rfl _) <|
    .cons (c 5 (k0_off76 k) (k0_off77_eq k) _ (rowZ k) rfl _) <| .cons (c 4 (k0_off74 k) (k0_off75_eq k) _ (rowZ k) rfl _) <|
    .cons (c 3 (k0_off72 k) (k0_off73_eq k) _ (rowZ k) rfl _) <| .cons (c 2 (k0_off70 k) (k0_off71_eq k) _ (rowZ k) rfl _) <|
    .cons (c 1 (k0_off68 k) (k0_off69_eq k) _ (rowZ k) rfl _) <| .cons (c 0 (k0_off66 k) (k0_off67_eq k) _ (rowZ k) rfl _) .nil

end Loops

end Cert.Proof

end
-- ==== Proof.Pieces.lean ====
/-
  A subcore's share of the work cut into what each of its copies takes: its rows of the result block by block, its
  first-table chunk share by share, and the two halves of the image twice each.
-/
module

public import proofs.«01_k».proof.Proof.Image
public import proofs.«01_k».proof.Proof.Fill

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

/-- What is left of the first-table chunk once its sixteen reading shares are given out. -/
abbrev pRest (d : Dev nD) (L : grid0.Coords) (fp : S128x256.Idx → Elt F .f32) : sProp (Res F) :=
  (pB).view.loc (V d (cV L) (jV L)) ↦[(pB).view.set]{Transfers.shareDrop fullShare k0_t2_loop.trips} fp

/-- The chunk is that and the sixteen shares. -/
theorem chunk_shares (d : Dev nD) (L : grid0.Coords) (fp : S128x256.Idx → Elt F .f32) :
    ((pB).view.loc (V d (cV L) (jV L)) ↦{fullShare} fp : sProp (Res F))
      = iprop(pRest d L fp ∗ bigSep Finset.univ fun t : Fin k0_t2_loop.trips => pTok d L fp t.val) := by
  have h := Transfers.pointsTo_toks_range (ℓ := (pB).view.loc (V d (cV L) (jV L))) (S := (pB).view.set) (f := fp) (Ix := HIx 1) (Name := ℕ) (U := UU)
    (Lvl := ℕ) fullShare k0_t2_loop.trips
  have e : (bigSep Finset.univ fun t : Fin k0_t2_loop.trips => pTok d L fp t.val) = bigSep (Finset.range k0_t2_loop.trips) fun t => pTok d L fp t := by
    rw [← Ring.rangeSet_univ (NB := k0_t2_loop.trips)]
    exact Ring.bigSep_rangeSet_eq_range (Φ := fun t : Fin k0_t2_loop.trips => pTok (F := F) d L fp t.val) (le_refl _)
      (fun t => pTok (F := F) d L fp t) (fun k _ => by simp only [Nat.zero_add])
  rw [e, show (Finset.univ : Finset (Idx ((pB).view.loc (V d (cV L) (jV L))))) = (pB).view.set from (View.set_whole cc0_scratch3).symm]
  exact BI.Entails.antisymm h.1 h.2

/-- A subcore's rows of the result are the sixteen blocks of the first table and the four of the image. -/
theorem out_blocks (d : Dev nD) (L : grid0.Coords) (f : S196608x256.Idx → Elt F .f32) :
    (oLoc d ↦[tileRows (2 * (L 1).val + (L 0).val)]{fullShare} f : sProp (Res F))
      = iprop((bigSep Finset.univ fun t : Fin k0_t2_loop.trips => oLoc d ↦[rowsOf (rowX L t.val) 128]{fullShare} f)
          ∗ (oLoc d ↦[rowsOf (rowYZ L 0) 1024]{fullShare} f) ∗ (oLoc d ↦[rowsOf (rowYZ L 1) 1024]{fullShare} f)
          ∗ (oLoc d ↦[rowsOf (rowYZ L 2) 1024]{fullShare} f) ∗ (oLoc d ↦[rowsOf (rowYZ L 3) 1024]{fullShare} f)) := by
  rw [← part_cover, pointsTo_biUnion (ℓ := oLoc d) Finset.univ (part L) (part_disjoint L), bigSep_univ_sum]
  congr 1
  rw [Idealize.SL.BI.bigSep_univ_eq_bigSepL [0, 1, 2, 3] (by decide) (by decide)]
  rfl

section Values

variable (Tx Ty Tz : S32x256.Idx → Elt F .f32)

/-- A copy of the image's first half over one of the first two blocks leaves there what is wanted, and -/
theorem low_landed (d : Dev nD) (L : grid0.Coords) (k : Fin 4) (hk : k.val < 2) (fo : S196608x256.Idx → Elt F .f32) :
    ((oYZ L k).view.loc (V d (cV L) (jV L)) ↦[(oYZ L k).view.set]{fullShare}
        ((oYZ L k).view.write (Elt F) fo (ReadAs.same.apply (sLow.view.read (Elt F) (shG Ty Tz))) Finset.univ) : sProp (Res F))
      = oLoc d ↦[rowsOf (rowYZ L k) 1024]{fullShare} (outG Tx Ty Tz) :=
  (pointsTo_congr (landed (V d (cV L) (jV L)) rfl sLow.view (oYZ L k).view (shG Ty Tz) fo (outG Tx Ty Tz) (low_value Tx Ty Tz L k hk))).trans (pts_oYZ d L k _)
/-- of its second half over one of the last two. -/
theorem high_landed (d : Dev nD) (L : grid0.Coords) (k : Fin 4) (hk : 2 ≤ k.val) (fo : S196608x256.Idx → Elt F .f32) :
    ((oYZ L k).view.loc (V d (cV L) (jV L)) ↦[(oYZ L k).view.set]{fullShare}
        ((oYZ L k).view.write (Elt F) fo (ReadAs.same.apply (sHigh.view.read (Elt F) (shG Ty Tz))) Finset.univ) : sProp (Res F))
      = oLoc d ↦[rowsOf (rowYZ L k) 1024]{fullShare} (outG Tx Ty Tz) :=
  (pointsTo_congr (landed (V d (cV L) (jV L)) rfl sHigh.view (oYZ L k).view (shG Ty Tz) fo (outG Tx Ty Tz) (high_value Tx Ty Tz L k hk))).trans (pts_oYZ d L k _)

/-- A subcore's chunk copied into the image is the image there. -/
theorem chunk_landed (d : Dev nD) (L : grid0.Coords) (f : S2048x256.Idx → Elt F .f32) :
    ((sC L).view.loc (V d (cV L) (jV L)) ↦[(sC L).view.set]{fullShare}
        ((sC L).view.writes (Elt F) f [⟨Rect.whole S128x256, ReadAs.same.apply ((qB).view.read (Elt F) (cG Ty Tz (L 1).val))⟩]) : sProp (Res F))
      = shLoc d (cV L) ↦[imgRows (128 * (L 1).val) 128]{fullShare} (shG Ty Tz) :=
  (congrArg (fun g => ((sC L).view.loc (V d (cV L) (jV L)) ↦[(sC L).view.set]{fullShare} g : sProp (Res F)))
    (View.write_univ_eq_writes_whole (sC L).view f [] (ReadAs.same.apply ((qB).view.read (Elt F) (cG Ty Tz (L 1).val)))).symm).trans <|
  (pointsTo_congr (landed (V d (cV L) (jV L)) rfl (qB).view (sC L).view (cG Ty Tz (L 1).val) f (shG Ty Tz) (chunk_value Ty Tz L))).trans (pts_sC d L _ _)

end Values

/-- The image at a share is each half of it at each half of the share. -/
theorem image_cut (d : Dev nD) (L : grid0.Coords) (q : PosShare TreeShare) (f : S2048x256.Idx → Elt F .f32) :
    (shLoc d (cV L) ↦{q} f : sProp (Res F)) = iprop(((shLoc d (cV L) ↦[imgRows 0 1024]{q.left} f) ∗ shLoc d (cV L) ↦[imgRows 0 1024]{q.right} f)
      ∗ (shLoc d (cV L) ↦[imgRows 1024 1024]{q.left} f) ∗ shLoc d (cV L) ↦[imgRows 1024 1024]{q.right} f) :=
  image_halves (shLoc d (cV L)) q (imgRows 0 1024) (imgRows 1024 1024) (rowsIn_disjoint (by omega)) (by
    refine Finset.eq_univ_iff_forall.mpr fun y => Finset.mem_union.mpr ?_
    have hy : (y 0).val < 2048 := (y 0).isLt
    rw [mem_rowsIn, mem_rowsIn]; omega) f

end Cert.Proof

end
-- ==== Proof.Fetch.lean ====
/-
  The first part of a subcore's task: the three tables copied into its own memory, and twelve of the sixteen runs of its
  first-table row loaded.
-/
module

public import proofs.«01_k».proof.Proof.Pieces

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [∀ e, Nonempty (Elt F e)]

/-- The three tables in main memory, held at a share, as a subcore addresses them; -/
abbrev tabsAt (d : Dev nD) (L : grid0.Coords) (q : PosShare TreeShare) (Tx Ty Tz : S32x256.Idx → Elt F .f32) : sProp (Res F) :=
  iprop(((xM).view.loc (V d (cV L) (jV L)) ↦{q} Tx) ∗ ((yM).view.loc (V d (cV L) (jV L)) ↦{q} Ty) ∗ ((zM).view.loc (V d (cV L) (jV L)) ↦{q} Tz))
/-- and their copies in its own memory. -/
abbrev copiesAt (d : Dev nD) (L : grid0.Coords) (Tx Ty Tz : S32x256.Idx → Elt F .f32) : sProp (Res F) :=
  iprop(((xB).view.loc (V d (cV L) (jV L)) ↦{fullShare} Tx) ∗ ((yB).view.loc (V d (cV L) (jV L)) ↦{fullShare} Ty) ∗ ((zB).view.loc (V d (cV L) (jV L)) ↦{fullShare} Tz))
/-- The semaphores of the three copies, at zero. -/
abbrev fetchSems (d : Dev nD) (L : grid0.Coords) : sProp (Res F) :=
  iprop(semVal (V d (cV L) (jV L), .dma cc0_scoped0.sem) 0 ∗ semVal (V d (cV L) (jV L), .dma cc0_scoped1.sem) 0 ∗ semVal (V d (cV L) (jV L), .dma cc0_scoped2.sem) 0)
/-- A subcore's debt with the waits it has made since it began. -/
abbrev owing (d : Dev nD) (L : grid0.Coords) (O : CellTallies nD τ sig (HIx 1)) (W : Waits sig (HIx 1)) : sProp (Res F) :=
  iprop(∃ W', ⌜∀ p ∈ W', p ∈ W ∨ p.2 = none ∨ p.2 = some (0 : Fin 1)⌝ ∗ owes (V d (cV L) (jV L)) O W')

/-- The tables fetched and the first twelve runs of the subcore's row loaded. -/
theorem fetch (d : Dev nD) (L : grid0.Coords) (q : PosShare TreeShare) (Tx Ty Tz fx fy fz : S32x256.Idx → Elt F .f32)
    (O : CellTallies nD τ sig (HIx 1)) (W : Waits sig (HIx 1)) :
    iprop(Transfers.MayWaits (V d (cV L) (jV L)) (default : HIx 1) O ∗ tabsAt d L q Tx Ty Tz ∗ copiesAt d L fx fy fz ∗ fetchSems d L ∗ owing d L O W)
      ⊢ wp frame (wpE (defs₀ (F := F)) 𝒱₀ (V d (cV L) (jV L)) none) Set.univ
        (k0_part6 L xM (Memref.isWhole_whole _) yM (Memref.isWhole_whole _) zM (Memref.isWhole_whole _) oM (Memref.isWhole_whole _)
          xB (Memref.isWhole_whole _) yB (Memref.isWhole_whole _) zB (Memref.isWhole_whole _) pB (Memref.isWhole_whole _)
          qB (Memref.isWhole_whole _) sM (Memref.isWhole_whole _) cc0_scratch6 cc0_scratch7 cc0_scoped0 cc0_scoped1 cc0_scoped2 cc0_scoped3)
        fun ⟨_, _, v4, v7, v10, v13, v16, v19, v22, v25, v28, v31, v34, v37⟩ =>
          iprop(⌜Lane (tab Tx (2 * (L 1).val + (L 0).val)) 0 v4 ∧ Lane (tab Tx (2 * (L 1).val + (L 0).val)) 1 v7
              ∧ Lane (tab Tx (2 * (L 1).val + (L 0).val)) 2 v10 ∧ Lane (tab Tx (2 * (L 1).val + (L 0).val)) 3 v13
              ∧ Lane (tab Tx (2 * (L 1).val + (L 0).val)) 4 v16 ∧ Lane (tab Tx (2 * (L 1).val + (L 0).val)) 5 v19
              ∧ Lane (tab Tx (2 * (L 1).val + (L 0).val)) 6 v22 ∧ Lane (tab Tx (2 * (L 1).val + (L 0).val)) 7 v25
              ∧ Lane (tab Tx (2 * (L 1).val + (L 0).val)) 8 v28 ∧ Lane (tab Tx (2 * (L 1).val + (L 0).val)) 9 v31
              ∧ Lane (tab Tx (2 * (L 1).val + (L 0).val)) 10 v34 ∧ Lane (tab Tx (2 * (L 1).val + (L 0).val)) 11 v37⌝
            ∗ tabsAt d L q Tx Ty Tz ∗ copiesAt d L Tx Ty Tz ∗ fetchSems d L ∗ owing d L O W) := by
  have ex := fun f => View.write_whole_univ (Val := Elt F) cc0_scratch0 f (ReadAs.same.apply ((xM).view.read (Elt F) Tx))
  have ey := fun f => View.write_whole_univ (Val := Elt F) cc0_scratch1 f (ReadAs.same.apply ((yM).view.read (Elt F) Ty))
  have ez := fun f => View.write_whole_univ (Val := Elt F) cc0_scratch2 f (ReadAs.same.apply ((zM).view.read (Elt F) Tz))
  have ld := fun {off : Fin 2 → ℕ} {n : ℕ} (h : off = ![2 * (L 1).val + (L 0).val, 16 * n]) inb => (Lane1.load (b := xB) (T := Tx)
    (f := (xB).view.write (Elt F) fx (ReadAs.same.apply ((xM).view.read (Elt F) Tx)) Finset.univ)
    (fun y => congrFun (ex fx) y) (q := n) (congrFun h 0) (congrFun h 1) inb).drop
  rw [k0_part6_eq_skeleton]; unfold k0_part6_skel
  iintro ⟨#Hmw, ⟨Hx, Hy, Hz⟩, ⟨Hxb, Hyb, Hzb⟩, ⟨H0, H1, H2⟩, ⟨%W', %hW, HO⟩⟩
  sl_exec
  sl_step
  isplitr
  · ipureintro
    exact ⟨ld (k0_off1_eq L) _, ld (k0_off2_eq L) _, ld (k0_off3_eq L) _, ld (k0_off4_eq L) _, ld (k0_off5_eq L) _, ld (k0_off6_eq L) _,
      ld (k0_off7_eq L) _, ld (k0_off8_eq L) _, ld (k0_off9_eq L) _, ld (k0_off10_eq L) _, ld (k0_off11_eq L) _, ld (k0_off12_eq L) _⟩
  isplitl [Hx Hy Hz]
  · isplitl [Hx]; · iexact Hx
    isplitl [Hy]; · iexact Hy
    iexact Hz
  isplitl [Hxb Hyb Hzb]
  · isplitl [Hxb]; · iapply (Entails.of_eq (congrArg (fun f => ((xB).view.loc (V d (cV L) (jV L)) ↦{fullShare} f : sProp (Res F))) (ex fx))); iexact Hxb
    isplitl [Hyb]; · iapply (Entails.of_eq (congrArg (fun f => ((yB).view.loc (V d (cV L) (jV L)) ↦{fullShare} f : sProp (Res F))) (ey fy))); iexact Hyb
    iapply (Entails.of_eq (congrArg (fun f => ((zB).view.loc (V d (cV L) (jV L)) ↦{fullShare} f : sProp (Res F))) (ez fz))); iexact Hzb
  isplitl [H0 H1 H2]
  · isplitl [H0]; · iexact H0
    isplitl [H1]; · iexact H1
    iexact H2
  iexists _; isplitr; swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  exact hW p hp

end Cert.Proof

end
-- ==== Proof.Barrier.lean ====
/-
  The barrier that sixteen subcores of a SparseCore meet at once each has put its chunk into the shared image. Each subcore
  hands every one of the sixteen its chunk at one of sixteen shares, so that after the barrier each holds the whole image at
  a share, and may read all of it.
-/
module

public import proofs.«01_k».proof.Proof.Image

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.ShloMosaic.ShareLeaves (leaf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The image cut into chunks and into shares -/

/-- No two of the sixteen chunks share a row, and -/
theorem chunks_apart : ∀ i ∈ (Finset.univ : Finset (Fin 16)), ∀ j ∈ (Finset.univ : Finset (Fin 16)), i ≠ j →
    Disjoint (imgRows (128 * i.val) 128) (imgRows (128 * j.val) 128) := fun i _ j _ h =>
  rowsIn_disjoint (by have : i.val ≠ j.val := fun e => h (Fin.ext e); omega)
/-- together they are the image. -/
theorem chunks_cover : (Finset.univ : Finset (Fin 16)).biUnion (fun i => imgRows (128 * i.val) 128) = Finset.univ := by
  refine Finset.eq_univ_iff_forall.mpr fun y => Finset.mem_biUnion.mpr ?_
  have hy : (y 0).val < 2048 := (y 0).isLt
  exact ⟨⟨(y 0).val / 128, by omega⟩, Finset.mem_univ _, mem_rowsIn.mpr ⟨by show 128 * ((y 0).val / 128) ≤ _; omega, by show _ < 128 * ((y 0).val / 128) + 128; omega⟩⟩

/-- The image at a share is its sixteen chunks at that share. -/
theorem image_chunks (d : Dev nD) (c : Fin τ.nSC) (q : PosShare TreeShare) (f : Buf (Elt F) (shLoc d c)) :
    (shLoc d c ↦{q} f : sProp (Res F)) = bigSep Finset.univ fun i : Fin 16 => shLoc d c ↦[imgRows (128 * i.val) 128]{q} f := by
  rw [← pointsTo_biUnion (ℓ := shLoc d c) Finset.univ (fun i : Fin 16 => imgRows (128 * i.val) 128) chunks_apart, chunks_cover]

/-! ## The barrier's one round -/

/-- Subcore `(c, j)`'s barrier semaphore. -/
abbrev barCell (d : Dev nD) (c : Fin τ.nSC) (j : Fin τ.nSub) : GSem nD τ sig := (V d c j, .reg sc_bar0)

/-- It is not the semaphore the launch starts a subcore by. -/
theorem bar_ne_go : (sc_bar0 : Sem sig) ≠ sc_go := by decide

/-- Whether a semaphore is some subcore's barrier semaphore. -/
def onBar (g : GSem nD τ sig) : Bool :=
  match g with
  | ((_, .scVector _ _), sm) => decide (sm = .reg sc_bar0)
  | _ => false
@[simp] theorem onBar_barCell (d : Dev nD) (c : Fin τ.nSC) (j : Fin τ.nSub) : onBar (barCell d c j) = true := by simp [onBar]

section Rounds

variable (IM : Dev nD → S2048x256.Idx → Elt F .f32)

/-- What subcore `n`'s arrival hands subcore `j`: chunk `n`, done, at the `j`-th of the sixteen shares. -/
def handed (g : GSem nD τ sig) (n : ℕ) : sProp (Res F) :=
  match g with
  | ((d, .scVector c j), _) => shLoc d c ↦[imgRows (128 * n) 128]{leaf 4 fullShare j} IM d
  | _ => iprop(emp)

/-- One round on each barrier semaphore, of one unit from each subcore of the SparseCore. -/
def barSched : Rounds.Schedule (GSem nD τ sig) ℕ (Res F) where
  duties g r := if onBar g ∧ r = 0 then (Finset.univ : Finset (Fin τ.nSub)).image Fin.val else ∅
  amount _ _ _ := 1
  payload g _ n := handed IM g n
  amount_pos _ _ _ _ := Nat.one_pos

instance barSched_storable (g : GSem nD τ sig) (r n : ℕ) : BI.Storable (upEmb : UEmb _ (Res F)) ((barSched IM).payload g r n) := by
  show BI.Storable upEmb (handed IM g n)
  unfold handed
  rcases g with ⟨⟨d, _ | c | ⟨c, i⟩⟩, sm⟩ <;> dsimp only <;> infer_instance

/-- The round's duties: one for each subcore; -/
theorem duties_zero (d : Dev nD) (c : Fin τ.nSC) (j : Fin τ.nSub) :
    (barSched IM).duties (barCell d c j) 0 = (Finset.univ : Finset (Fin τ.nSub)).image Fin.val := by simp [barSched]
/-- no later round has any. -/
theorem duties_later (g : GSem nD τ sig) (r : ℕ) (hr : 1 ≤ r) : (barSched IM).duties g r = ∅ := if_neg fun h => absurd h.2 (Nat.ne_of_gt hr)
/-- Every subcore's arrival is one of that round's duties. -/
theorem duty_mem (d : Dev nD) (c : Fin τ.nSC) (j i : Fin τ.nSub) : i.val ∈ (barSched IM).duties (barCell d c j) 0 := by
  rw [duties_zero]; exact Finset.mem_image_of_mem _ (Finset.mem_univ i)
/-- The round is over at sixteen units. -/
theorem round_size (d : Dev nD) (c : Fin τ.nSC) (j : Fin τ.nSub) : 0 + grid0.bound 1 = (barSched IM).expect (barCell d c j) 0 := by
  unfold Rounds.Schedule.expect; rw [duties_zero]
  show 0 + 16 = ∑ x ∈ (Finset.univ : Finset (Fin 16)).image Fin.val, 1
  rw [Finset.sum_const, Finset.card_image_of_injective _ Fin.val_injective]; rfl

/-- A subcore's chunk, done, is what its sixteen arrivals hand over. -/
theorem hand_over (d : Dev nD) (L : grid0.Coords) : (shLoc d (cV L) ↦[imgRows (128 * (L 1).val) 128]{fullShare} IM d : sProp (Res F))
    ⊢ bigSep Finset.univ fun j : Fin (grid0.bound 1) => (barSched IM).payload (barCell d (cV L) (j.castLE hsub0)) 0 (jV L).val :=
  Entails.of_eq (ShareLeaves.pointsTo_leaves (ℓ := shLoc d (cV L)) (imgRows (128 * (L 1).val) 128) (IM d) 4 fullShare)

/-- What the sixteen arrivals hand a subcore is the whole image, at its share. -/
theorem take_over (d : Dev nD) (L : grid0.Coords) :
    (bigSep ((barSched IM).duties (barCell d (cV L) (jV L)) 0 \ ∅) fun n => (barSched IM).payload (barCell d (cV L) (jV L)) 0 n)
      ⊢ (shLoc d (cV L) ↦{leaf 4 fullShare (jV L)} IM d : sProp (Res F)) := by
  rw [Finset.sdiff_empty, duties_zero, SparseCore.bigSep_image_of_injOn (fun a _ b _ e => Fin.ext e), image_chunks]
  exact BI.Entails.refl _

end Rounds

/-! ## What each subcore owes and holds for it -/

/-- A subcore owes one unit to each subcore of its SparseCore. -/
def arrivals (d : Dev nD) (c : Fin τ.nSC) : CellTallies nD τ sig (HIx 1) := ∑ j : Fin (grid0.bound 1), tallyAt (barCell d c (j.castLE hsub0)) (some 0) 1

/-- All of it at the call's index; -/
theorem arrivals_none (d : Dev nD) (c : Fin τ.nSC) (g : GSem nD τ sig) : arrivals d c g none = 0 := by
  unfold arrivals
  rw [Finset.sum_apply, Finsupp.finsetSum_apply]
  exact Finset.sum_eq_zero fun j _ => by rw [tallyAt_apply, if_neg (fun e => nomatch e.2)]
/-- and to barrier semaphores only. -/
theorem arrivals_pos {d : Dev nD} {c : Fin τ.nSC} {g : GSem nD τ sig} {ι : HIx 1} (h : 0 < arrivals d c g ι) :
    ∃ j : Fin (grid0.bound 1), g = barCell d c (j.castLE hsub0) ∧ ι = some 0 := by
  unfold arrivals at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- What a subcore needs to meet the others: that each barrier semaphore keeps the round's terms and has reached it, its own
    place in the round, its right to one arrival at each, and credit for the sixteen it awaits. -/
def barKit (IM : Dev nD → S2048x256.Idx → Elt F .f32) (d : Dev nD) (c : Fin τ.nSC) (i : Fin τ.nSub) : sProp (Res F) :=
  iprop((∃ κ : GSem nD τ sig → ℕ, bigSep Finset.univ fun j : Fin (grid0.bound 1) =>
      cellInv EB (barSched IM) (κ (barCell d c (j.castLE hsub0))) (barCell d c (j.castLE hsub0)))
    ∗ (bigSep Finset.univ fun j : Fin (grid0.bound 1) => dutyTok EB (barCell d c (j.castLE hsub0)) 0 i.val)
    ∗ (bigSep Finset.univ fun j : Fin (grid0.bound 1) => reached EB (barCell d c (j.castLE hsub0)) 0)
    ∗ atPos EB (barCell d c i) 0 ∅ 0
    ∗ cred (tallyAt (barCell d c i) (some 0) (grid0.bound 1)))

end Cert.Proof

end
-- ==== Proof.Meet.lean ====
/-
  The middle of a subcore's task: its chunk of the image, filled, is put into the shared scratch, the subcores meet, and the
  first copy out of the whole image is begun.
-/
module

public import proofs.«01_k».proof.Proof.Fetch
public import proofs.«01_k».proof.Proof.Barrier

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.ShloMosaic.ShareLeaves (leaf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

/-- The middle of the task, as the kernel has it. -/
def meeting (L : grid0.Coords) : Prog (TpuEff nD τ sig (Elt F) Λ₀ (.scVector (cV L) (jV L))) (BitVec 32) := do
  Prog.lift (.enqueueDma qB (.here (sC L)) (.dma cc0_scoped3.sem) (Memref.isWhole_whole _).wordExact (View.wordExact_bits rfl) ⟨Or.inl rfl, trivial⟩)
  Prog.lift (.waitDma2 cc0_scoped3.sem qB (sC L) (Memref.isWhole_whole _).wordExact (View.wordExact_bits rfl))
  SparseCore.subcoreBarrier sc_bar0 (grid0.bound 1) hsub0
  Prog.lift (.enqueueDma sLow (.here (oYZ L 0)) (.dma cc0_scratch7.sem) (View.wordExact_bits rfl) (View.wordExact_bits rfl) ⟨Or.inl rfl, trivial⟩)
  pure 128#32

variable (IM : Dev nD → S2048x256.Idx → Elt F .f32)

/-- The subcore's chunk done, it ends with the whole image, at its share, and the first copy out of it begun. -/
theorem meet (d : Dev nD) (L : grid0.Coords) (Tx Ty Tz : S32x256.Idx → Elt F .f32) (hIM : IM d = shG Ty Tz)
    (fsh : S2048x256.Idx → Elt F .f32) (fo : S196608x256.Idx → Elt F .f32) (O : CellTallies nD τ sig (HIx 1)) (W : Waits sig (HIx 1))
    (hOlev : ∀ g ι, 0 < O g ι → 8 * (0 : Fin 1).val + 6 ≤ (K (F := F)).lev g ι) :
    iprop(levAts (K (F := F)).L (K (F := F)).lev ∗ Transfers.MayWaits (V d (cV L) (jV L)) (default : HIx 1) (O + arrivals d (cV L))
        ∗ barKit IM d (cV L) (jV L) ∗ ((qB).view.loc (V d (cV L) (jV L)) ↦{fullShare} cG Ty Tz (L 1).val)
        ∗ (shLoc d (cV L) ↦[imgRows (128 * (L 1).val) 128]{fullShare} fsh) ∗ (oLoc d ↦[rowsOf (rowYZ L 0) 1024]{fullShare} fo)
        ∗ semVal (V d (cV L) (jV L), .dma cc0_scratch7.sem) 0 ∗ semVal (V d (cV L) (jV L), .dma cc0_scoped3.sem) 0
        ∗ owing d L (O + arrivals d (cV L)) W)
      ⊢ wp frame (wpE (defs₀ (F := F)) 𝒱₀ (V d (cV L) (jV L)) none) Set.univ (meeting L)
        fun _ => iprop(((qB).view.loc (V d (cV L) (jV L)) ↦{fullShare} cG Ty Tz (L 1).val)
          ∗ yzBatch d L (leaf 4 fullShare (jV L)) (shG Ty Tz) (outG Tx Ty Tz) 1 0
          ∗ (shLoc d (cV L) ↦[imgRows 0 1024]{(leaf 4 fullShare (jV L)).right} shG Ty Tz)
          ∗ (shLoc d (cV L) ↦[imgRows 1024 1024]{(leaf 4 fullShare (jV L)).left} shG Ty Tz)
          ∗ (shLoc d (cV L) ↦[imgRows 1024 1024]{(leaf 4 fullShare (jV L)).right} shG Ty Tz)
          ∗ semVal (V d (cV L) (jV L), .dma cc0_scoped3.sem) 0 ∗ semVal (barCell d (cV L) (jV L)) 0 ∗ owing d L O W) := by
  unfold meeting barKit
  rw [← pts_sC d L fullShare fsh]
  iintro ⟨#Hlv, #Hmw, ⟨⟨%κ, #Hinv⟩, Htoks, #Hrch, Hat, Hcred⟩, Hq, Hsh, Ho0, H7, H3, ⟨%W', %hW, HO⟩⟩
  sl_exec
  ihave Hpays := (hand_over IM d L) $$ [Hsh]
  · rw [hIM]
    iapply (Entails.of_eq (chunk_landed Ty Tz d L fsh)); iexact Hsh
  iapply (SparseCore.wp_subcoreBarrier 𝒱₀ none EB (barSched IM) d (sc := cV L) (i := jV L) sc_bar0 (grid0.bound 1) hsub0 (L 1) rfl κ (fun _ => 0) (jV L).val
      (fun j => duty_mem IM d _ _ _) (fun _ => rfl) (round_size IM d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (barCell d (cV L) (jV L)) (some 0) ≤ 3
        rw [(K (F := F)).lev_V_reg d _ _ (show (sc_bar0 : Sem sig) ≠ (K (F := F)).go from bar_ne_go)]; exact le_rfl)
      (fun g ι hg => lt_of_lt_of_le (by decide) (hOlev g ι hg)))
    iexact Hlv
  iintro ⟨HO, Hat, -, Hgot⟩
  imod (Rounds.cell_close EB (barSched IM) (g := barCell d (cV L) (jV L)) (Set.mem_univ (κ _)) (fun h => h) (duties_later IM _)) $$ [Hat] with Hbar
  · isplitr
    · iapply (SparseCore.ent (bigSep_elim (Φ := fun j : Fin (grid0.bound 1) =>
        (cellInv EB (barSched IM) (κ (barCell d (cV L) (j.castLE hsub0))) (barCell d (cV L) (j.castLE hsub0)) : sProp (Res F))) (Finset.mem_univ (L 1)))); iexact Hinv
    · iexact Hat
  ihave Him := (take_over IM d L) $$ Hgot
  rw [hIM]
  ihave Him := (Entails.of_eq (image_cut d L _ _)) $$ Him
  icases Him with ⟨⟨Hl0, Hl1⟩, Hh0, Hh1⟩
  imod (Transfers.batch_alloc' (Lvl := ℕ) EC (V d (cV L) (jV L)) (default : HIx 1) 8388608
    (yzD d L (leaf 4 fullShare (jV L)) (shG Ty Tz) (outG Tx Ty Tz)) (sm := .dma cc0_scratch7.sem) (E := Set.univ)) $$ H7 with HB
  ihave Hl0 := (Entails.of_eq (pts_sLow d L _ _).symm) $$ Hl0
  ihave Ho0 := (Entails.of_eq (pts_oYZ d L 0 _).symm) $$ Ho0
  iapply (Transfers.wp_dmaBatch EC 𝒱₀ (V d (cV L) (jV L)) none (src := sLow) (dst := oYZ L 0) (default : HIx 1) 8388608 rfl subset_rfl
    (q := (leaf 4 fullShare (jV L)).left) (fs := shG Ty Tz) (fd := fo)
    (D := yzD d L (leaf 4 fullShare (jV L)) (shG Ty Tz) (outG Tx Ty Tz)) (j := 0) (u := 0) (by decide) (Nat.zero_le _)
    (Entails.of_eq (congrArg₂ _ (low_landed Tx Ty Tz d L 0 (by decide) fo) (pts_sLow d L _ _)))) $$ [Ho0 Hl0 HB]
  · isplitl [Hl0]; · iexact Hl0
    isplitl [Ho0]; · iexact Ho0
    iexact HB
  iintro HB
  simp only [bind_of_ret]
  sl_step
  isplitl [Hq]; · iexact Hq
  isplitl [HB]; · iexact HB
  isplitl [Hl1]; · iexact Hl1
  isplitl [Hh0]; · iexact Hh0
  isplitl [Hh1]; · iexact Hh1
  isplitl [H3]; · iexact H3
  isplitl [Hbar]; · iexact Hbar
  iexists _; isplitr; swap; · iexact HO
  ipureintro; intro p hp
  rcases Finset.mem_insert.mp hp with hp | hp; · exact .inr (.inr (hp ▸ rfl))
  rcases Finset.mem_insert.mp hp with hp | hp; · exact .inr (.inl (hp ▸ rfl))
  exact hW p hp

end Cert.Proof

end
-- ==== Proof.Work.lean ====
/-
  The second part of a subcore's task: the first-table chunk filled and sent out sixteen times, the subcore's chunk of the
  image filled and put into the shared scratch, the barrier, and the first copy out of the image.
-/
module

public import proofs.«01_k».proof.Proof.Fetch
public import proofs.«01_k».proof.Proof.Meet

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.ShloMosaic.ShareLeaves (leaf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

/-- A chunk buffer filled to the last row holds what it was to be filled with; -/
theorem p_full (d : Dev nD) (L : grid0.Coords) (G : S128x256.Idx → Elt F .f32) (n : ℕ) (hn : 128 ≤ n) :
    rowsDone d L pB G n ⊢ ((pB).view.loc (V d (cV L) (jV L)) ↦{fullShare} G : sProp (Res F)) := by
  unfold rowsDone
  iintro ⟨%f, %hf, H⟩
  have e : f = G := funext fun y => hf y (lt_of_lt_of_le (y 0).isLt hn)
  subst e; iexact H
/-- so with the other, and the table it was filled from. -/
theorem q_full (d : Dev nD) (L : grid0.Coords) (t : Memref sig .scVector .vmem S32x256 .f32) (T : t.view.ty.Contents (Elt F))
    (G : S128x256.Idx → Elt F .f32) (n : ℕ) (hn : 128 ≤ n) : rowsFrom d L t T qB G n
      ⊢ (iprop((t.view.loc (V d (cV L) (jV L)) ↦{fullShare} T) ∗ (qB).view.loc (V d (cV L) (jV L)) ↦{fullShare} G) : sProp (Res F)) := by
  unfold rowsFrom
  iintro ⟨HT, %f, %hf, H⟩
  have e : f = G := funext fun y => hf y (lt_of_lt_of_le (y 0).isLt hn)
  subst e
  isplitl [HT]; · iexact HT
  iexact H

variable (IM : Dev nD → S2048x256.Idx → Elt F .f32)

/-- From the fetched tables on: the first-table chunk is filled and its sixteen copies begun, the subcore's chunk of the image
    is filled from the table its half takes, and what `meet` does follows. -/
theorem work (d : Dev nD) (L : grid0.Coords) (Tx Ty Tz : S32x256.Idx → Elt F .f32) (hIM : IM d = shG Ty Tz)
    (fp fq : S128x256.Idx → Elt F .f32) (fsh : S2048x256.Idx → Elt F .f32) (fo : S196608x256.Idx → Elt F .f32)
    (O : CellTallies nD τ sig (HIx 1)) (W : Waits sig (HIx 1))
    (hOlev : ∀ g ι, 0 < O g ι → 8 * (0 : Fin 1).val + 6 ≤ (K (F := F)).lev g ι)
    (arg1 v1 : BitVec 32) (v4 v7 v10 v13 v16 v19 v22 v25 v28 v31 v34 v37 : FVec F S16 .f32)
    (h4 : Lane (tab Tx (2 * (L 1).val + (L 0).val)) 0 v4) (h7 : Lane (tab Tx (2 * (L 1).val + (L 0).val)) 1 v7)
    (h10 : Lane (tab Tx (2 * (L 1).val + (L 0).val)) 2 v10) (h13 : Lane (tab Tx (2 * (L 1).val + (L 0).val)) 3 v13)
    (h16 : Lane (tab Tx (2 * (L 1).val + (L 0).val)) 4 v16) (h19 : Lane (tab Tx (2 * (L 1).val + (L 0).val)) 5 v19)
    (h22 : Lane (tab Tx (2 * (L 1).val + (L 0).val)) 6 v22) (h25 : Lane (tab Tx (2 * (L 1).val + (L 0).val)) 7 v25)
    (h28 : Lane (tab Tx (2 * (L 1).val + (L 0).val)) 8 v28) (h31 : Lane (tab Tx (2 * (L 1).val + (L 0).val)) 9 v31)
    (h34 : Lane (tab Tx (2 * (L 1).val + (L 0).val)) 10 v34) (h37 : Lane (tab Tx (2 * (L 1).val + (L 0).val)) 11 v37) :
    iprop(levAts (K (F := F)).L (K (F := F)).lev ∗ Transfers.MayWaits (V d (cV L) (jV L)) (default : HIx 1) (O + arrivals d (cV L))
        ∗ barKit IM d (cV L) (jV L) ∗ copiesAt d L Tx Ty Tz
        ∗ ((pB).view.loc (V d (cV L) (jV L)) ↦{fullShare} fp) ∗ ((qB).view.loc (V d (cV L) (jV L)) ↦{fullShare} fq)
        ∗ (shLoc d (cV L) ↦[imgRows (128 * (L 1).val) 128]{fullShare} fsh)
        ∗ (oLoc d ↦[tileRows (2 * (L 1).val + (L 0).val)]{fullShare} fo)
        ∗ semVal (V d (cV L) (jV L), .dma cc0_scratch6.sem) 0 ∗ semVal (V d (cV L) (jV L), .dma cc0_scratch7.sem) 0
        ∗ semVal (V d (cV L) (jV L), .dma cc0_scoped3.sem) 0 ∗ owing d L (O + arrivals d (cV L)) W)
      ⊢ wp frame (wpE (defs₀ (F := F)) 𝒱₀ (V d (cV L) (jV L)) none) Set.univ
        (k0_part7 L xM (Memref.isWhole_whole _) yM (Memref.isWhole_whole _) zM (Memref.isWhole_whole _) oM (Memref.isWhole_whole _)
          xB (Memref.isWhole_whole _) yB (Memref.isWhole_whole _) zB (Memref.isWhole_whole _) pB (Memref.isWhole_whole _)
          qB (Memref.isWhole_whole _) sM (Memref.isWhole_whole _) cc0_scratch6 cc0_scratch7 cc0_scoped0 cc0_scoped1 cc0_scoped2 cc0_scoped3
          arg1 v1 v4 v7 v10 v13 v16 v19 v22 v25 v28 v31 v34 v37)
        fun _ => iprop((copiesAt d L Tx Ty Tz ∗ pRest d L (xG Tx (2 * (L 1).val + (L 0).val))
            ∗ xBatch d L (xG Tx (2 * (L 1).val + (L 0).val)) (outG Tx Ty Tz) k0_t2_loop.trips 0
            ∗ (oLoc d ↦[rowsOf (rowYZ L 1) 1024]{fullShare} fo) ∗ (oLoc d ↦[rowsOf (rowYZ L 2) 1024]{fullShare} fo)
            ∗ (oLoc d ↦[rowsOf (rowYZ L 3) 1024]{fullShare} fo))
          ∗ ((qB).view.loc (V d (cV L) (jV L)) ↦{fullShare} cG Ty Tz (L 1).val)
          ∗ yzBatch d L (leaf 4 fullShare (jV L)) (shG Ty Tz) (outG Tx Ty Tz) 1 0
          ∗ (shLoc d (cV L) ↦[imgRows 0 1024]{(leaf 4 fullShare (jV L)).right} shG Ty Tz)
          ∗ (shLoc d (cV L) ↦[imgRows 1024 1024]{(leaf 4 fullShare (jV L)).left} shG Ty Tz)
          ∗ (shLoc d (cV L) ↦[imgRows 1024 1024]{(leaf 4 fullShare (jV L)).right} shG Ty Tz)
          ∗ semVal (V d (cV L) (jV L), .dma cc0_scoped3.sem) 0 ∗ semVal (barCell d (cV L) (jV L)) 0 ∗ owing d L O W) := by
  have ld := fun {off : Fin 2 → ℕ} {n : ℕ} (h : off = ![2 * (L 1).val + (L 0).val, 16 * n]) inb => (Lane1.load (b := xB) (T := Tx)
    (f := Tx) (fun _ => rfl) (q := n) (congrFun h 0) (congrFun h 1) inb)
  rw [k0_part7_eq_skeleton]; unfold k0_part7_skel
  rw [out_blocks]
  iintro ⟨#Hlv, #Hmw, Hkit, ⟨Hxb, Hyb, Hzb⟩, Hp, Hq, Hsh, ⟨Hos, Ho0, Ho1, Ho2, Ho3⟩, H6, H7, H3, HO⟩
  sl_exec
  sl_for (fun k _ => rowsDone d L pB (xG Tx (2 * (L 1).val + (L 0).val)) k) $$ [Hp]
  · intro k acc
    exact t1_step d L _ (tab Tx (2 * (L 1).val + (L 0).val)) (fun _ => rfl) _ _ _ _ _ _ _ _ _ _ _ _ _ _ _ _ _ _ h4 h7 h10 h13 h16 h19 h22 h25 h28 h31 h34 h37
      (ld (k0_off13_eq L) _) (ld (k0_off14_eq L) _) (ld (k0_off15_eq L) _) (ld (k0_off16_eq L) _) k acc
  · unfold rowsDone
    iexists _; isplitr; swap; · iexact Hp
    ipureintro; intro y hy; exact absurd hy (Nat.not_lt_zero _)
  iintro %acc HL
  ihave Hp := (p_full d L (xG Tx (2 * (L 1).val + (L 0).val)) _ (by decide)) $$ HL
  ihave Hp := (Entails.of_eq (chunk_shares d L _)) $$ Hp
  icases Hp with ⟨Hpr, Hpt⟩
  imod (Transfers.batch_alloc' (Lvl := ℕ) EC (V d (cV L) (jV L)) (default : HIx 1) 1048576
    (xD d L (xG Tx (2 * (L 1).val + (L 0).val)) (outG Tx Ty Tz)) (sm := .dma cc0_scratch6.sem) (E := Set.univ)) $$ H6 with HB
  sl_for (fun k _ => sent d L (xG Tx (2 * (L 1).val + (L 0).val)) fo (outG Tx Ty Tz) k) $$ [HB Hos Hpt]
  · intro k acc
    exact t2_step d L _ fo _ (sent_value Tx Ty Tz L) _ _ _ _ _ _ _ _ _ _ _ _ _ _ k acc
  · unfold sent
    rw [Ring.rangeSet_univ]
    isplitl [HB]; · iexact HB
    isplitl [Hos]; · iexact Hos
    iexact Hpt
  iintro %acc2 HL
  unfold sent
  icases HL with ⟨HB, -, -⟩
  sl_exec
  by_cases hc : k0_cond1 L = 1#1
  · rw [dif_pos hc]
    sl_for (fun k _ => rowsFrom d L yB Ty qB (cG Ty Tz (L 1).val) k) $$ [Hyb Hq]
    · intro k acc
      exact t3_step d L Ty _ (fun y => chunk_low Ty Tz ((branch_iff L).mp hc) y) _ _ _ _ _ _ _ _ _ _ _ _ _ _ hc k acc
    · unfold rowsFrom
      isplitl [Hyb]; · iexact Hyb
      iexists _; isplitr; swap; · iexact Hq
      ipureintro; intro y hy; exact absurd hy (Nat.not_lt_zero _)
    iintro %acc3 HL
    ihave HL := (q_full d L yB Ty (cG Ty Tz (L 1).val) _ (by decide)) $$ HL
    icases HL with ⟨Hyb, Hq⟩
    iapply (wp_frame_l Idealize.ShloMosaic.frame (wpE (defs₀ (F := F)) 𝒱₀ (V d (cV L) (jV L)) none) Set.univ (p := meeting L))
    isplitl [Hxb Hyb Hzb Hpr HB Ho1 Ho2 Ho3]
    · isplitl [Hxb Hyb Hzb]
      · isplitl [Hxb]; · iexact Hxb
        isplitl [Hyb]; · iexact Hyb
        iexact Hzb
      isplitl [Hpr]; · iexact Hpr
      isplitl [HB]; · iexact HB
      isplitl [Ho1]; · iexact Ho1
      isplitl [Ho2]; · iexact Ho2
      iexact Ho3
    iapply (meet IM d L Tx Ty Tz hIM fsh fo O W hOlev)
    isplitr; · iexact Hlv
    isplitr; · iexact Hmw
    isplitl [Hkit]; · iexact Hkit
    isplitl [Hq]; · iexact Hq
    isplitl [Hsh]; · iexact Hsh
    isplitl [Ho0]; · iexact Ho0
    isplitl [H7]; · iexact H7
    isplitl [H3]; · iexact H3
    iexact HO
  · rw [dif_neg hc]
    sl_for (fun k _ => rowsFrom d L zB Tz qB (cG Ty Tz (L 1).val) k) $$ [Hzb Hq]
    · intro k acc
      exact t4_step d L Tz _ (fun y => chunk_high Ty Tz (fun h => hc ((branch_iff L).mpr h)) y) _ _ _ _ _ _ _ _ _ _ _ _ _ _ hc k acc
    · unfold rowsFrom
      isplitl [Hzb]; · iexact Hzb
      iexists _; isplitr; swap; · iexact Hq
      ipureintro; intro y hy; exact absurd hy (Nat.not_lt_zero _)
    iintro %acc3 HL
    ihave HL := (q_full d L zB Tz (cG Ty Tz (L 1).val) _ (by decide)) $$ HL
    icases HL with ⟨Hzb, Hq⟩
    iapply (wp_frame_l Idealize.ShloMosaic.frame (wpE (defs₀ (F := F)) 𝒱₀ (V d (cV L) (jV L)) none) Set.univ (p := meeting L))
    isplitl [Hxb Hyb Hzb Hpr HB Ho1 Ho2 Ho3]
    · isplitl [Hxb Hyb Hzb]
      · isplitl [Hxb]; · iexact Hxb
        isplitl [Hyb]; · iexact Hyb
        iexact Hzb
      isplitl [Hpr]; · iexact Hpr
      isplitl [HB]; · iexact HB
      isplitl [Ho1]; · iexact Ho1
      isplitl [Ho2]; · iexact Ho2
      iexact Ho3
    iapply (meet IM d L Tx Ty Tz hIM fsh fo O W hOlev)
    isplitr; · iexact Hlv
    isplitr; · iexact Hmw
    isplitl [Hkit]; · iexact Hkit
    isplitl [Hq]; · iexact Hq
    isplitl [Hsh]; · iexact Hsh
    isplitl [Ho0]; · iexact Ho0
    isplitl [H7]; · iexact H7
    isplitl [H3]; · iexact H3
    iexact HO

end Cert.Proof

end
-- ==== Proof.Finish.lean ====
/-
  The last part of a subcore's task: the other three copies out of the image, then the waits for all twenty copies, after
  which the subcore's rows of the result, its chunk and its share of the image are whole again.
-/
module

public import proofs.«01_k».proof.Proof.Work

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.ShloMosaic.ShareLeaves (leaf)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

/-- What the sixteen copies leave is the sixteen blocks and the chunk's sixteen shares. -/
theorem x_back (d : Dev nD) (L : grid0.Coords) (fp : S128x256.Idx → Elt F .f32) (OUT : S196608x256.Idx → Elt F .f32) :
    (bigSep Finset.univ (xD d L fp OUT) : sProp (Res F)) = iprop((bigSep Finset.univ fun t : Fin k0_t2_loop.trips => oLoc d ↦[rowsOf (rowX L t.val) 128]{fullShare} OUT)
      ∗ bigSep Finset.univ fun t : Fin k0_t2_loop.trips => pTok d L fp t.val) := by
  rw [← bigSep_sep']; rfl

variable [FloatOps F] [∀ e, Nonempty (Elt F e)]

/-- The last part, up to the last of its waits. -/
theorem send (d : Dev nD) (L : grid0.Coords) (Tx Ty Tz : S32x256.Idx → Elt F .f32) (fp : S128x256.Idx → Elt F .f32)
    (fo : S196608x256.Idx → Elt F .f32) (q : PosShare TreeShare) (O : CellTallies nD τ sig (HIx 1)) (W : Waits sig (HIx 1)) (v1 v2 : BitVec 32) :
    iprop(Transfers.MayWaits (V d (cV L) (jV L)) (default : HIx 1) O ∗ xBatch d L fp (outG Tx Ty Tz) k0_t2_loop.trips 0
        ∗ yzBatch d L q (shG Ty Tz) (outG Tx Ty Tz) 1 0
        ∗ (oLoc d ↦[rowsOf (rowYZ L 1) 1024]{fullShare} fo) ∗ (oLoc d ↦[rowsOf (rowYZ L 2) 1024]{fullShare} fo)
        ∗ (oLoc d ↦[rowsOf (rowYZ L 3) 1024]{fullShare} fo)
        ∗ (shLoc d (cV L) ↦[imgRows 0 1024]{q.right} shG Ty Tz) ∗ (shLoc d (cV L) ↦[imgRows 1024 1024]{q.left} shG Ty Tz)
        ∗ (shLoc d (cV L) ↦[imgRows 1024 1024]{q.right} shG Ty Tz) ∗ owing d L O W)
      ⊢ wp frame (wpE (defs₀ (F := F)) 𝒱₀ (V d (cV L) (jV L)) none) Set.univ
        (k0_part8 L xM (Memref.isWhole_whole _) yM (Memref.isWhole_whole _) zM (Memref.isWhole_whole _) oM (Memref.isWhole_whole _)
          xB (Memref.isWhole_whole _) yB (Memref.isWhole_whole _) zB (Memref.isWhole_whole _) pB (Memref.isWhole_whole _)
          qB (Memref.isWhole_whole _) sM (Memref.isWhole_whole _) cc0_scratch6 cc0_scratch7 cc0_scoped0 cc0_scoped1 cc0_scoped2 cc0_scoped3 v1 v2)
        fun _ => iprop(yzBatch d L q (shG Ty Tz) (outG Tx Ty Tz) 4 25165824 ∗ semVal (V d (cV L) (jV L), .dma cc0_scratch6.sem) 0
          ∗ bigSep Finset.univ (xD d L fp (outG Tx Ty Tz)) ∗ owing d L O W) := by
  rw [k0_part8_eq_skeleton]; unfold k0_part8_skel
  rw [← pts_oYZ d L 1 fo, ← pts_oYZ d L 2 fo, ← pts_oYZ d L 3 fo, ← pts_sLow d L, ← pts_sHigh d L, ← pts_sHigh d L]
  iintro ⟨#Hmw, HX, HB, Ho1, Ho2, Ho3, Hi1, Hi2, Hi3, HO⟩
  iapply (Transfers.wp_dmaBatch EC 𝒱₀ (V d (cV L) (jV L)) none (src := sLow) (dst := oYZ L 1) (default : HIx 1) 8388608 rfl subset_rfl
    (q := q.right) (fs := shG Ty Tz) (fd := fo) (D := yzD d L q (shG Ty Tz) (outG Tx Ty Tz)) (j := 1) (u := 0) (by decide) (Nat.zero_le _)
    (Entails.of_eq (congrArg₂ _ (low_landed Tx Ty Tz d L 1 (by decide) fo) (pts_sLow d L _ _)))) $$ [Ho1 Hi1 HB]
  · isplitl [Hi1]; · iexact Hi1
    isplitl [Ho1]; · iexact Ho1
    iexact HB
  iintro HB
  simp only [bind_of_ret]
  iapply (Transfers.wp_dmaBatch EC 𝒱₀ (V d (cV L) (jV L)) none (src := sHigh) (dst := oYZ L 2) (default : HIx 1) 8388608 rfl subset_rfl
    (q := q.left) (fs := shG Ty Tz) (fd := fo) (D := yzD d L q (shG Ty Tz) (outG Tx Ty Tz)) (j := 2) (u := 0) (by decide) (Nat.zero_le _)
    (Entails.of_eq (congrArg₂ _ (high_landed Tx Ty Tz d L 2 (by decide) fo) (pts_sHigh d L _ _)))) $$ [Ho2 Hi2 HB]
  · isplitl [Hi2]; · iexact Hi2
    isplitl [Ho2]; · iexact Ho2
    iexact HB
  iintro HB
  simp only [bind_of_ret]
  iapply (Transfers.wp_dmaBatch EC 𝒱₀ (V d (cV L) (jV L)) none (src := sHigh) (dst := oYZ L 3) (default : HIx 1) 8388608 rfl subset_rfl
    (q := q.right) (fs := shG Ty Tz) (fd := fo) (D := yzD d L q (shG Ty Tz) (outG Tx Ty Tz)) (j := 3) (u := 0) (by decide) (Nat.zero_le _)
    (Entails.of_eq (congrArg₂ _ (high_landed Tx Ty Tz d L 3 (by decide) fo) (pts_sHigh d L _ _)))) $$ [Ho3 Hi3 HB]
  · isplitl [Hi3]; · iexact Hi3
    isplitl [Ho3]; · iexact Ho3
    iexact HB
  iintro HB
  simp only [bind_of_ret]
  sl_for (fun k _ => drained d L fp (outG Tx Ty Tz) O W k) $$ [HX HO]
  · intro k acc
    exact t5_step d L fp _ O W _ _ k acc
  · unfold drained
    rw [if_pos (show 0 < k0_t5_loop.trips by decide), Nat.zero_mul]
    isplitr; · iexact Hmw
    isplitl [HO]; · iexact HO
    iexact HX
  iintro %acc HL
  unfold drained
  rw [if_neg (show ¬ Scf.trips k0_t5_loop.lb k0_t5_loop.ub k0_t5_loop.st < k0_t5_loop.trips from Nat.lt_irrefl _)]
  icases HL with ⟨-, ⟨%W', %hW, HO⟩, H6, HX⟩
  sl_exec
  sl_step
  isplitl [HB]; · iexact HB
  isplitl [H6]; · iexact H6
  isplitl [HX]; · iexact HX
  iexists _; isplitr; swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  exact hW p hp

end Cert.Proof

end
-- ==== Proof.Own.lean ====
/-
  A subcore's own buffers and semaphores: the five buffers and the six copy semaphores that the kernel names, and the rest.
-/
module

public import proofs.«01_k».proof.Proof.Setup

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (ownBufs ownSems0 ownRefs ownCells mem_ownCells)

variable {F : FTy → Type}

/-- A few members, told apart by number, taken out of a family held together. -/
theorem take_out {I : Type} [DecidableEq I] {n : ℕ} {all : Finset I} {pick : Fin n → I} (apart : Function.Injective pick)
    (among : ∀ k, pick k ∈ all) (held : I → sProp (Res F)) :
    bigSep all held = iprop((bigSep Finset.univ fun k => held (pick k)) ∗ bigSep (all \ Finset.univ.image pick) held) := by
  have within : Finset.univ.image pick ⊆ all := Finset.image_subset_iff.mpr fun k _ => among k
  rw [SparseCore.bigSep_sdiff_split' within]
  exact congrArg (fun part => iprop(part ∗ bigSep (all \ Finset.univ.image pick) held)) (SparseCore.bigSep_image_of_injOn apart.injOn held)

/-- The kernel's buffers in a subcore's own memory, -/
def bufNo : Fin 5 → Ref sig .scVector := ![cc0_scratch0, cc0_scratch1, cc0_scratch2, cc0_scratch3, cc0_scratch4]
/-- no one of them another; -/
theorem bufNo_injective : Function.Injective bufNo := by decide
/-- and its copy semaphores, -/
def semNo : Fin 6 → DmaSem sig := ![cc0_scratch6.sem, cc0_scratch7.sem, cc0_scoped0.sem, cc0_scoped1.sem, cc0_scoped2.sem, cc0_scoped3.sem]
/-- no one of them another. -/
theorem semNo_injective : Function.Injective semNo := by decide

variable (d : Dev nD) (c : Fin τ.nSC) (i : Fin τ.nSub)

/-- The subcore's other buffers, and -/
def otherBufs : sProp (Res F) :=
  bigSep (ownRefs (.scVector c i) \ Finset.univ.image fun k => (Proc.scVector c i).devRef (bufNo k)) fun b => iprop(∃ f, ((d, b) : Loc nD τ sig) ↦{fullShare} f)
/-- its other semaphores. -/
def otherSems : sProp (Res F) :=
  bigSep (ownCells (V d c i) \ Finset.univ.image fun k => ((V d c i, .dma (semNo k)) : GSem nD τ sig)) fun g => semVal g 0

/-- A subcore's own buffers, listed; -/
theorem own_bufs : (ownBufs (V d c i) : sProp (Res F)) = iprop(((∃ f, (V d c i).loc cc0_scratch0 ↦{fullShare} f) ∗ (∃ f, (V d c i).loc cc0_scratch1 ↦{fullShare} f)
    ∗ (∃ f, (V d c i).loc cc0_scratch2 ↦{fullShare} f) ∗ (∃ f, (V d c i).loc cc0_scratch3 ↦{fullShare} f) ∗ (∃ f, (V d c i).loc cc0_scratch4 ↦{fullShare} f)) ∗ otherBufs d c i) := by
  unfold ownBufs
  rw [take_out (pick := fun k => (Proc.scVector c i).devRef (bufNo k)) (fun _ _ e => bufNo_injective (Proc.devRef_injective _ e))
    (fun k => SparseCore.Cfg.mem_ownRefs_of_owner (by fin_cases k <;> rfl)),
    Idealize.SL.BI.bigSep_univ_eq_bigSepL [0, 1, 2, 3, 4] (by decide) (by decide)]
  rfl

/-- its own semaphores at zero, listed. -/
theorem own_sems : (ownSems0 (V d c i) : sProp (Res F)) = iprop((semVal (V d c i, .dma cc0_scratch6.sem) 0 ∗ semVal (V d c i, .dma cc0_scratch7.sem) 0
    ∗ semVal (V d c i, .dma cc0_scoped0.sem) 0 ∗ semVal (V d c i, .dma cc0_scoped1.sem) 0 ∗ semVal (V d c i, .dma cc0_scoped2.sem) 0
    ∗ semVal (V d c i, .dma cc0_scoped3.sem) 0) ∗ otherSems d c i) := by
  unfold ownSems0
  rw [take_out (pick := fun k => ((V d c i, .dma (semNo k)) : GSem nD τ sig)) (fun _ _ e => semNo_injective (SemLoc.dma.inj (congrArg Prod.snd e)))
    (fun k => mem_ownCells.mpr ⟨rfl, by
      show (SemLoc.dma (semNo k) : SemLoc sig).isScoped .scVector = true
      revert k; decide⟩),
    Idealize.SL.BI.bigSep_univ_eq_bigSepL [0, 1, 2, 3, 4, 5] (by decide) (by decide)]
  rfl

end Cert.Proof

end
-- ==== Proof.Tile.lean ====
/-
  The whole of a subcore's task, from what the launch gives it to what it brings back.
-/
module

public import proofs.«01_k».proof.Proof.Finish
public import proofs.«01_k».proof.Proof.Own

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.ShloMosaic.ShareLeaves (leaf)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

/-- The three tables, on device `d`, -/
abbrev xLoc (d : Dev nD) : Loc nD τ sig := (SparseCore.T d).loc main_arg1
abbrev yLoc (d : Dev nD) : Loc nD τ sig := (SparseCore.T d).loc main_arg2
abbrev zLoc (d : Dev nD) : Loc nD τ sig := (SparseCore.T d).loc main_arg3
/-- held at a share. -/
abbrev tabs (d : Dev nD) (q : PosShare TreeShare) (Tx Ty Tz : S32x256.Idx → Elt F .f32) : sProp (Res F) :=
  iprop((xLoc d ↦{q} Tx) ∗ (yLoc d ↦{q} Ty) ∗ (zLoc d ↦{q} Tz))

variable [FloatOps F] [∀ e, Nonempty (Elt F e)] (IM : Dev nD → S2048x256.Idx → Elt F .f32)

/-- The task: a subcore given the tables at a share, its rows of the result and its chunk of the image brings back the
    tables, its rows done, and the whole image at its share; its barrier semaphore is at zero and closed. -/
theorem task (hF : (K (F := F)).Facts) (d : Dev nD) (L : grid0.Coords) (q : PosShare TreeShare) (Tx Ty Tz : S32x256.Idx → Elt F .f32)
    (hIM : IM d = shG Ty Tz) (fo : S196608x256.Idx → Elt F .f32) (O : CellTallies nD τ sig (HIx 1)) (W : Waits sig (HIx 1))
    (hO : ∀ g, O g none = 0) (hOlev : ∀ g ι, 0 < O g ι → 8 * (0 : Fin 1).val + 6 ≤ (K (F := F)).lev g ι) :
    iprop(levAts (K (F := F)).L (K (F := F)).lev ∗ barKit IM d (cV L) (jV L)
        ∗ (tabs d q Tx Ty Tz ∗ (oLoc d ↦[tileRows (2 * (L 1).val + (L 0).val)]{fullShare} fo)
          ∗ ∃ f, shLoc d (cV L) ↦[imgRows (128 * (L 1).val) 128]{fullShare} f)
        ∗ scopedBufs (V d (cV L) (jV L)) ∗ scopedSems0 (V d (cV L) (jV L)) ∗ owes (V d (cV L) (jV L)) (O + arrivals d (cV L)) W)
      ⊢ wp frame (wpE (defs₀ (F := F)) 𝒱₀ (V d (cV L) (jV L)) none) Set.univ (bodyAt L)
        fun _ => iprop(((tabs d q Tx Ty Tz ∗ (oLoc d ↦[tileRows (2 * (L 1).val + (L 0).val)]{fullShare} outG Tx Ty Tz)
            ∗ shLoc d (cV L) ↦{leaf 4 fullShare (jV L)} IM d) ∗ semVal (barCell d (cV L) (jV L)) 0)
          ∗ scopedBufs (V d (cV L) (jV L)) ∗ scopedSems0 (V d (cV L) (jV L)) ∗ owing d L O W) := by
  unfold bodyAt
  rw [cc0_run_eq_skeleton]; unfold cc0_run_skel
  rw [(K (F := F)).scopedBufs_V hF d (cV L) (jV L), SparseCore.Cfg.scopedSems0_V (Val := Elt F) d (cV L) (jV L), own_sems, own_bufs]
  iintro ⟨#Hlv, Hkit, ⟨Htab, Ho, %fsh, Hsh⟩, ⟨⟨⟨%fx, Hx⟩, ⟨%fy, Hy⟩, ⟨%fz, Hz⟩, ⟨%fp, Hp⟩, %fq, Hq⟩, Hbufs⟩, ⟨⟨H6, H7, S0, S1, S2, S3⟩, Hsems⟩, HO⟩
  ihave Hmw1 := (show levAts (K (F := F)).L (K (F := F)).lev ⊢ Transfers.MayWaits (V d (cV L) (jV L)) (default : HIx 1) (O + arrivals d (cV L)) from
    (K (F := F)).mayWaits_none (thr := V d (cV L) (jV L)) fun g => by rw [Pi.add_apply, Finsupp.add_apply, hO g, arrivals_none]) $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  icases Hmw1 with #Hmw1
  icases Hmw2 with #Hmw2
  rw [wp_bind]
  iapply (wp_wand_r Idealize.ShloMosaic.frame (wpE (defs₀ (F := F)) 𝒱₀ (V d (cV L) (jV L)) none) Set.univ)
  isplitl [Htab Hx Hy Hz S0 S1 S2 HO]
  · iapply (fetch d L q Tx Ty Tz fx fy fz (O + arrivals d (cV L)) W)
    isplitr; · iexact Hmw1
    isplitl [Htab]; · iexact Htab
    isplitl [Hx Hy Hz]
    · isplitl [Hx]; · iexact Hx
      isplitl [Hy]; · iexact Hy
      iexact Hz
    isplitl [S0 S1 S2]
    · isplitl [S0]; · iexact S0
      isplitl [S1]; · iexact S1
      iexact S2
    iexists W; isplitr; swap; · iexact HO
    ipureintro; intro p hp; exact .inl hp
  iintro %r Hr
  obtain ⟨arg1, v1, v4, v7, v10, v13, v16, v19, v22, v25, v28, v31, v34, v37⟩ := r
  dsimp only
  icases Hr with ⟨%h, Htab, Hcop, ⟨S0, S1, S2⟩, HO⟩
  obtain ⟨h4, h7, h10, h13, h16, h19, h22, h25, h28, h31, h34, h37⟩ := h
  rw [wp_bind]
  iapply (wp_wand_r Idealize.ShloMosaic.frame (wpE (defs₀ (F := F)) 𝒱₀ (V d (cV L) (jV L)) none) Set.univ)
  isplitl [Hkit Hcop Hp Hq Hsh Ho H6 H7 S3 HO]
  · iapply (work IM d L Tx Ty Tz hIM fp fq fsh fo O W hOlev arg1 v1 _ _ _ _ _ _ _ _ _ _ _ _ h4 h7 h10 h13 h16 h19 h22 h25 h28 h31 h34 h37)
    isplitr; · iexact Hlv
    isplitr; · iexact Hmw1
    isplitl [Hkit]; · iexact Hkit
    isplitl [Hcop]; · iexact Hcop
    isplitl [Hp]; · iexact Hp
    isplitl [Hq]; · iexact Hq
    isplitl [Hsh]; · iexact Hsh
    isplitl [Ho]; · iexact Ho
    isplitl [H6]; · iexact H6
    isplitl [H7]; · iexact H7
    isplitl [S3]; · iexact S3
    iexact HO
  iintro %r ⟨⟨⟨Hx, Hy, Hz⟩, Hpr, HX, Ho1, Ho2, Ho3⟩, Hq, HB, Hi1, Hi2, Hi3, S3, Hbar, HO⟩
  rw [wp_bind]
  iapply (wp_wand_r Idealize.ShloMosaic.frame (wpE (defs₀ (F := F)) 𝒱₀ (V d (cV L) (jV L)) none) Set.univ)
  isplitl [HX HB Ho1 Ho2 Ho3 Hi1 Hi2 Hi3 HO]
  · iapply (send d L Tx Ty Tz _ fo (leaf 4 fullShare (jV L)) O W v1 r)
    isplitr; · iexact Hmw2
    isplitl [HX]; · iexact HX
    isplitl [HB]; · iexact HB
    isplitl [Ho1]; · iexact Ho1
    isplitl [Ho2]; · iexact Ho2
    isplitl [Ho3]; · iexact Ho3
    isplitl [Hi1]; · iexact Hi1
    isplitl [Hi2]; · iexact Hi2
    isplitl [Hi3]; · iexact Hi3
    iexact HO
  iintro %_ ⟨HB, H6, HX, ⟨%W', %hW, HO⟩⟩
  sl_exec
  sl_step
  ihave HX := (Entails.of_eq (x_back d L _ _)) $$ HX
  icases HX with ⟨Hos, Hpt⟩
  isplitl [Htab Hos HB_dst0 HB_dst1 HB_dst2 HB_dst3 HB_src0 HB_src1 HB_src2 HB_src3 Hbar]
  · isplitr [Hbar]; swap; · iexact Hbar
    isplitl [Htab]; · iexact Htab
    isplitl [Hos HB_dst0 HB_dst1 HB_dst2 HB_dst3]
    · iapply (Entails.of_eq (out_blocks d L _).symm)
      isplitl [Hos]; · iexact Hos
      isplitl [HB_dst0]; · iexact HB_dst0
      isplitl [HB_dst1]; · iexact HB_dst1
      isplitl [HB_dst2]; · iexact HB_dst2
      iexact HB_dst3
    rw [hIM]
    iapply (Entails.of_eq (image_cut d L _ _).symm)
    isplitl [HB_src0 HB_src1]
    · isplitl [HB_src0]; · iexact HB_src0
      iexact HB_src1
    isplitl [HB_src2]; · iexact HB_src2
    iexact HB_src3
  isplitl [Hx Hy Hz Hpr Hpt Hq Hbufs]
  · isplitr [Hbufs]; swap; · iexact Hbufs
    isplitl [Hx]; · iexists _; iexact Hx
    isplitl [Hy]; · iexists _; iexact Hy
    isplitl [Hz]; · iexists _; iexact Hz
    isplitl [Hpr Hpt]
    · iexists _
      iapply (Entails.of_eq (chunk_shares d L (xG Tx (2 * (L 1).val + (L 0).val))).symm)
      isplitl [Hpr]; · iexact Hpr
      iexact Hpt
    iexists _; iexact Hq
  isplitl [H6 HB S0 S1 S2 S3 Hsems]
  · isplitr [Hsems]; swap; · iexact Hsems
    isplitl [H6]; · iexact H6
    isplitl [HB]; · iexact HB
    isplitl [S0]; · iexact S0
    isplitl [S1]; · iexact S1
    isplitl [S2]; · iexact S2
    iexact S3
  iexists _; isplitr; swap; · iexact HO
  ipureintro; intro p hp
  rcases Finset.mem_insert.mp hp with hp | hp; · exact .inr (.inl (hp ▸ rfl))
  exact hW p hp

end Cert.Proof

end
-- ==== Proof.Deal.lean ====
/-
  What the launch hands each SparseCore and each SparseCore hands its subcores, and what comes back: the tables go out in
  shares, the result in blocks of rows, the shared image in chunks, and all of it comes back whole.
-/
module

public import proofs.«01_k».proof.Proof.Tile

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownRefs mem_ownRefs)
open Idealize.ShloMosaic.ShareLeaves (leaf)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

/-! ## The tables' shares and the result's rows -/

/-- The tables at a share are the tables at each of the shares it is cut into. -/
theorem tabs_leaves (d : Dev nD) (n : ℕ) (q : PosShare TreeShare) (Tx Ty Tz : S32x256.Idx → Elt F .f32) :
    (tabs d q Tx Ty Tz : sProp (Res F)) = bigSep Finset.univ fun i : Fin (2 ^ n) => tabs d (leaf n q i) Tx Ty Tz := by
  unfold tabs
  rw [bigSep_sep', bigSep_sep']
  exact congrArg₂ _ (ShareLeaves.pointsTo_leaves (ℓ := xLoc d) _ Tx n q)
    (congrArg₂ _ (ShareLeaves.pointsTo_leaves (ℓ := yLoc d) _ Ty n q) (ShareLeaves.pointsTo_leaves (ℓ := zLoc d) _ Tz n q))

/-- The two SparseCores' rows are apart, and -/
theorem cores_apart : ∀ c ∈ (Finset.univ : Finset (Fin 2)), ∀ c' ∈ (Finset.univ : Finset (Fin 2)), c ≠ c' → Disjoint (coreRows c.val) (coreRows c'.val) :=
  fun c _ c' _ h => Finset.disjoint_left.mpr fun _ hy hy' => h (Fin.ext ((mem_coreRows.mp hy).symm.trans (mem_coreRows.mp hy')))
/-- together all there are. -/
theorem cores_cover : (Finset.univ : Finset (Fin 2)).biUnion (fun c => coreRows c.val) = Finset.univ :=
  Finset.eq_univ_iff_forall.mpr fun _ => Finset.mem_biUnion.mpr ⟨⟨_, Nat.mod_lt _ (by decide)⟩, Finset.mem_univ _, mem_coreRows.mpr rfl⟩

/-- The result is the two SparseCores' rows of it. -/
theorem out_cores (d : Dev nD) (f : Buf (Elt F) (oLoc d)) :
    (oLoc d ↦{fullShare} f : sProp (Res F)) = bigSep Finset.univ fun c : Fin 2 => oLoc d ↦[coreRows c.val]{fullShare} f := by
  rw [← pointsTo_biUnion (ℓ := oLoc d) Finset.univ (fun c : Fin 2 => coreRows c.val) cores_apart, cores_cover]

/-- The sixteen subcores' rows of a SparseCore's are apart, and -/
theorem tiles_apart (c : ℕ) : ∀ i ∈ (Finset.univ : Finset (Fin 16)), ∀ j ∈ (Finset.univ : Finset (Fin 16)), i ≠ j →
    Disjoint (tileRows (2 * i.val + c)) (tileRows (2 * j.val + c)) := fun i _ j _ h =>
  Finset.disjoint_left.mpr fun y hy hy' => h (Fin.ext (by have := mem_tileRows.mp hy; have := mem_tileRows.mp hy'; omega))
/-- together the SparseCore's. -/
theorem tiles_cover {c : ℕ} (hc : c < 2) : (Finset.univ : Finset (Fin 16)).biUnion (fun i => tileRows (2 * i.val + c)) = coreRows c := by
  ext y
  simp only [Finset.mem_biUnion, Finset.mem_univ, true_and, mem_tileRows, mem_coreRows]
  constructor
  · rintro ⟨i, h⟩; omega
  · intro h
    exact ⟨⟨(y 0).val / 1024 % 32 / 2, by omega⟩, by show _ = 2 * ((y 0).val / 1024 % 32 / 2) + c; omega⟩

/-- A SparseCore's rows of the result are its sixteen subcores'. -/
theorem core_tiles (d : Dev nD) (c : Fin τ.nSC) (f : Buf (Elt F) (oLoc d)) :
    (oLoc d ↦[coreRows c.val]{fullShare} f : sProp (Res F))
      = bigSep Finset.univ fun i : Fin 16 => oLoc d ↦[tileRows (2 * i.val + c.val)]{fullShare} f := by
  rw [← pointsTo_biUnion (ℓ := oLoc d) Finset.univ (fun i : Fin 16 => tileRows (2 * i.val + c.val)) (tiles_apart c.val), tiles_cover c.isLt]

/-! ## What goes out and what comes back -/

variable (m : (ℓ : Loc nD τ sig) → Buf (Elt F) ℓ)

/-- The shared image made of the tables the launch finds, -/
def image (d : Dev nD) : S2048x256.Idx → Elt F .f32 := shG (m (yLoc d)) (m (zLoc d))
/-- and the result. -/
def result (d : Dev nD) : S196608x256.Idx → Elt F .f32 := outG (m (xLoc d)) (m (yLoc d)) (m (zLoc d))

/-- The tables the launch finds, at a share. -/
abbrev held (d : Dev nD) (q : PosShare TreeShare) : sProp (Res F) := tabs d q (m (xLoc d)) (m (yLoc d)) (m (zLoc d))
/-- A SparseCore's barrier semaphores at zero. -/
abbrev bars (d : Dev nD) (c : Fin τ.nSC) : sProp (Res F) := bigSep Finset.univ fun i : Fin τ.nSub => semVal (barCell d c i) 0

/-- What a SparseCore is handed, the tables at its share and its rows of the result; -/
abbrev coreGets (d : Dev nD) (c : Fin τ.nSC) : sProp (Res F) :=
  iprop(held m d (leaf 1 fullShare c) ∗ oLoc d ↦[coreRows c.val]{fullShare} m (oLoc d))
/-- what it hands back, the rows done. -/
abbrev coreGives (d : Dev nD) (c : Fin τ.nSC) : sProp (Res F) :=
  iprop((held m d (leaf 1 fullShare c) ∗ oLoc d ↦[coreRows c.val]{fullShare} result m d) ∗ bars d c)
/-- What a subcore is handed, the tables at its share, its rows of the result and its chunk of the shared image; -/
abbrev tileGets (d : Dev nD) (c : Fin τ.nSC) (i : Fin τ.nSub) : sProp (Res F) :=
  iprop(held m d (leaf 4 (leaf 1 fullShare c) i) ∗ (oLoc d ↦[tileRows (2 * i.val + c.val)]{fullShare} m (oLoc d))
    ∗ ∃ f, shLoc d c ↦[imgRows (128 * i.val) 128]{fullShare} f)
/-- what it hands back, the rows done, and the whole image at its share. -/
abbrev tileGives (d : Dev nD) (c : Fin τ.nSC) (i : Fin τ.nSub) : sProp (Res F) :=
  iprop((held m d (leaf 4 (leaf 1 fullShare c) i) ∗ (oLoc d ↦[tileRows (2 * i.val + c.val)]{fullShare} result m d)
    ∗ shLoc d c ↦{leaf 4 fullShare i} image m d) ∗ semVal (barCell d c i) 0)

/-- A SparseCore deals its subcores what it was handed and the shared image's buffer; -/
theorem deal (d : Dev nD) (c : Fin τ.nSC) :
    iprop(coreGets m d c ∗ ∃ f, shLoc d c ↦{fullShare} f) ⊢ bigSep Finset.univ fun i : Fin τ.nSub => tileGets m d c i := by
  unfold tileGets coreGets held
  rw [bigSep_sep' _ (fun i : Fin τ.nSub => tabs d (leaf 4 (leaf 1 fullShare c) i) (m (xLoc d)) (m (yLoc d)) (m (zLoc d))),
    bigSep_sep' _ (fun i : Fin τ.nSub => oLoc d ↦[tileRows (2 * i.val + c.val)]{fullShare} m (oLoc d)), core_tiles, tabs_leaves d 4]
  iintro ⟨⟨Ht, Ho⟩, %f, Hs⟩
  isplitl [Ht]; · iexact Ht
  isplitl [Ho]; · iexact Ho
  ihave Hs := (Entails.of_eq (image_chunks d c fullShare f)) $$ Hs
  iapply (SparseCore.ent (bigSep_mono (Φ := fun i : Fin 16 => (shLoc d c ↦[imgRows (128 * i.val) 128]{fullShare} f : sProp (Res F)))
    (Ψ := fun i : Fin 16 => iprop(∃ f, shLoc d c ↦[imgRows (128 * i.val) 128]{fullShare} f))
    fun i _ => BI.BIClass.exists_intro (Φ := fun f => (shLoc d c ↦[imgRows (128 * i.val) 128]{fullShare} f : sProp (Res F))) f))
  iexact Hs

/-- and what they give makes what it hands back, and that buffer whole. -/
theorem gather (d : Dev nD) (c : Fin τ.nSC) :
    (bigSep Finset.univ fun i : Fin τ.nSub => tileGives m d c i) ⊢ iprop(coreGives m d c ∗ ∃ f, shLoc d c ↦{fullShare} f) := by
  unfold tileGives coreGives held
  rw [bigSep_sep',
    bigSep_sep' _ (fun i : Fin τ.nSub => tabs d (leaf 4 (leaf 1 fullShare c) i) (m (xLoc d)) (m (yLoc d)) (m (zLoc d))),
    bigSep_sep' _ (fun i : Fin τ.nSub => oLoc d ↦[tileRows (2 * i.val + c.val)]{fullShare} result m d), core_tiles, tabs_leaves d 4]
  iintro ⟨⟨Ht, Ho, Hs⟩, Hb⟩
  isplitr [Hs]
  · isplitr [Hb]; swap; · iexact Hb
    isplitl [Ht]; · iexact Ht
    iexact Ho
  iexists image m d
  iapply (Entails.of_eq (ShareLeaves.pointsTo_leaves (ℓ := shLoc d c) Finset.univ (image m d) 4 fullShare).symm)
  iexact Hs

/-! ## The launch's payloads -/

section Payloads

set_option backward.proofsInPublic true in
/-- What the call's signals carry, and what each subcore owes the barrier. -/
def P : (K (F := F)).Pay (nD := nD) (Val := Elt F) (Name := ℕ) (U := UU) where
  st := fun q d c => match q with | 0 => coreGets m d ((K (F := F)).core 0 c)
  dn := fun q d c => match q with | 0 => coreGives m d ((K (F := F)).core 0 c)
  go := fun q d c i => match q with | 0 => tileGets m d ((K (F := F)).core 0 c) ((K (F := F)).sub 0 i)
  td := fun q d c i => match q with | 0 => tileGives m d ((K (F := F)).core 0 c) ((K (F := F)).sub 0 i)
  x := fun _ thr => match thr with
    | (d, .scVector c i) => barKit (image m) d c i
    | _ => iprop(emp)
  ox := fun _ thr => match thr with
    | (d, .scVector c _) => arrivals d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · obtain ⟨j, rfl, rfl⟩ := arrivals_pos h
      rw [(K (F := F)).lev_V_reg d c (j.castLE hsub0) (show (sc_bar0 : Sem sig) ≠ (K (F := F)).go from bar_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

/-- The launch's semaphores may keep what it hands over. -/
instance P_storable : (P m).IsStorable where
  st q d c := match q with | 0 => (inferInstance : BI.Storable (upEmb : UEmb _ (Res F)) (coreGets m d ((K (F := F)).core 0 c)))
  dn q d c := match q with | 0 => (inferInstance : BI.Storable (upEmb : UEmb _ (Res F)) (coreGives m d ((K (F := F)).core 0 c)))
  go q d c i := match q with
    | 0 => (inferInstance : BI.Storable (upEmb : UEmb _ (Res F)) (tileGets m d ((K (F := F)).core 0 c) ((K (F := F)).sub 0 i)))
  td q d c i := match q with
    | 0 => (inferInstance : BI.Storable (upEmb : UEmb _ (Res F)) (tileGives m d ((K (F := F)).core 0 c) ((K (F := F)).sub 0 i)))

end Payloads

/-- Among a SparseCore's own buffers is the shared image's. -/
theorem core_bufs (d : Dev nD) (c : Fin τ.nSC) : (ownBufs (S d c) : sProp (Res F))
    = iprop((∃ f, shLoc d c ↦{fullShare} f)
      ∗ bigSep ((ownRefs (τ := τ) (.scScalar c)).erase (shRef c)) fun b => iprop(∃ f, ((d, b) : Loc nD τ sig) ↦{fullShare} f)) := by
  unfold SparseCore.Cfg.ownBufs
  exact SparseCore.bigSep_erase' ((mem_ownRefs (p := Proc.scScalar c) (b := shRef c)).mpr rfl)

/-- The call's dealing, in the launch's terms. -/
theorem vecSplit : (K (F := F)).VecSplit (P m) 0 := by
  intro d c
  show iprop(coreGets m d ((K (F := F)).core 0 c) ∗ ownBufs (S d ((K (F := F)).core 0 c))) ⊢ |={Set.univ}=> iprop(
      (bigSep Finset.univ fun i : Fin τ.nSub => tileGets m d ((K (F := F)).core 0 c) i)
      ∗ ((bigSep Finset.univ fun i : Fin τ.nSub => tileGives m d ((K (F := F)).core 0 c) i)
          -∗ iprop(coreGives m d ((K (F := F)).core 0 c) ∗ ownBufs (S d ((K (F := F)).core 0 c)))))
  rw [core_bufs]
  iintro ⟨Hg, Hs, Hrest⟩; imodintro
  isplitl [Hg Hs]
  · iapply (deal m d ((K (F := F)).core 0 c))
    isplitl [Hg] <;> iassumption
  iintro H
  ihave H := (gather m d ((K (F := F)).core 0 c)) $$ H
  icases H with ⟨Hg, Hs⟩
  isplitl [Hg]; · iexact Hg
  isplitl [Hs]; · iexact Hs
  iexact Hrest

/-! ## The task as the launch runs it -/

variable [FloatOps F] [∀ e, Nonempty (Elt F e)]

/-- The program's functions, the variants of its waits, and the one they start from. -/
abbrev D : Defs nD τ sig (Elt F) (ΛP (F := F)) := Pipeline.defs pcfgs defs₀
abbrev 𝒱 : Variants := 𝒱₀.lift
abbrev v₀ : 𝒱.V := Sum.inl none

/-- The launch's own semaphores are what it takes them to be. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- A subcore's place in the call's grid. -/
def coordsV (c : Fin (grid0.bound 0)) (s : Fin (grid0.bound 1)) : grid0.Coords :=
  fun | 0 => c | 1 => s | ⟨_ + 2, h⟩ => absurd h (Nat.not_lt.2 (Nat.le_add_left _ _))

/-- What a subcore runs. -/
theorem defs₀_vector (c : Fin τ.nSC) (s : Fin τ.nSub) :
    defs₀ (F := F) (.scVector c s) 0 () = SparseCore.onTile hcore0 hsub0 (fun c s => bodyAt (coordsV c s)) ⟨⟩ c s := rfl

set_option maxRecDepth 16384 in
/-- Every subcore's task, in the launch's terms. -/
theorem tileObl : (K (F := F)).TileObl D 𝒱 (P m) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg D (Pipeline.defs_kernel pcfgs defs₀) 𝒱₀ _ Set.univ none _ _)
  rw [defs₀_vector]; simp only [SparseCore.onTile, hci, and_self, ↓reduceDIte]
  exact task (image m) facts d (coordsV ⟨_, hci.1⟩ ⟨_, hci.2⟩) (leaf 4 (leaf 1 fullShare ((K (F := F)).core 0 c)) ((K (F := F)).sub 0 i))
    (m (xLoc d)) (m (yLoc d)) (m (zLoc d)) rfl (m (oLoc d)) O W hO hOlev

end Cert.Proof

end
-- ==== Proof.Start.lean ====
/-
  What the subcores need to meet at the barrier, made at the launch and dealt out: every barrier semaphore under the
  round's terms, and for each subcore its place in its own round, its right to one arrival at each of the sixteen of its
  SparseCore, and credit for the sixteen it awaits.
-/
module

public import proofs.«01_k».proof.Proof.Deal
public import Idealize.ShloMosaic.Lib.SparseCore.Quiescent

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The barrier semaphores and the rights at them -/

/-- A subcore, its device and SparseCore with it, -/
abbrev Place : Type := Dev nD × Fin τ.nSC × Fin τ.nSub
/-- and its barrier semaphore. -/
abbrev cellOf (x : Place) : GSem nD τ sig := barCell x.1 x.2.1 x.2.2

/-- Each subcore has one of its own. -/
theorem cellOf_injective : Function.Injective cellOf := fun a b e => by
  obtain ⟨h1, h2⟩ := Prod.mk.inj (Prod.mk.inj e).1
  obtain ⟨h3, h4⟩ := Proc.scVector.inj h2
  exact Prod.ext h1 (Prod.ext h3 h4)

/-- All of them. -/
def bCells : Finset (GSem nD τ sig) := Finset.univ.image cellOf
/-- The right of each subcore to one arrival at each of its SparseCore's. -/
def bToks : Finset (GSem nD τ sig × ℕ × ℕ) :=
  (Finset.univ ×ˢ Finset.univ).image fun x : Place × Fin (grid0.bound 1) => (barCell x.1.1 x.1.2.1 (x.2.castLE hsub0), 0, x.1.2.2.val)
/-- The launch's ghost state: the signals' rounds and the barrier's. -/
def u₀ : UU := (initOf (K (F := F)).hsCells (K (F := F)).hsToks, (initOf bCells bToks, 1))

/-- What is held of every barrier semaphore is held for every subcore. -/
theorem over_places (Φ : GSem nD τ sig → sProp (Res F)) : bigSep bCells Φ = bigSep Finset.univ fun x : Place => Φ (cellOf x) :=
  SparseCore.bigSep_image_of_injOn cellOf_injective.injOn Φ

/-- The arrivals a subcore has a right to. -/
abbrev rights (x : Place) : sProp (Res F) :=
  bigSep Finset.univ fun j : Fin (grid0.bound 1) => dutyTok EB (barCell x.1 x.2.1 (j.castLE hsub0)) 0 x.2.2.val

/-- All the rights there are, dealt to the subcores. -/
theorem rights_dealt : (bigSep bToks fun x => (dutyTok EB x.1 x.2.1 x.2.2 : sProp (Res F))) = bigSep Finset.univ fun x : Place => rights x := by
  unfold bToks
  rw [SparseCore.bigSep_image_of_injOn, SparseCore.bigSep_product]
  rintro ⟨⟨d, c, i⟩, j⟩ - ⟨⟨d', c', i'⟩, j'⟩ - e
  obtain ⟨e1, e2⟩ := Prod.mk.inj e
  obtain ⟨rfl, e3⟩ := Prod.mk.inj (Prod.mk.inj e1).1
  obtain ⟨rfl, hj⟩ := Proc.scVector.inj e3
  obtain rfl : j = j' := Fin.ext (congrArg Fin.val hj)
  obtain rfl : i = i' := Fin.ext (Prod.mk.inj e2).2
  rfl

/-- The launch's ghost state is the signals' and the barrier's apart. -/
theorem apart_u₀ (a : UH) (b : UB) : (ownU ((a, (b, 1)) : UU) : sProp (Res F)) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- The barrier semaphores at zero, among the semaphores the launch leaves free. -/
theorem free_bars : ((K (F := F)).freeOn (· ∈ bCells) : sProp (Res F)) ⊢ bigSep bCells fun g => semVal g 0 := by
  rw [over_places]
  unfold SparseCore.Cfg.freeOn
  refine sep_elim_right.trans (bigSep_mono fun x _ => ?_)
  exact bigSep_elim (Φ := fun sm : SemLoc sig => (semVal (V x.1 x.2.1 x.2.2, sm) 0 : sProp (Res F))) (Finset.mem_filter.mpr
    ⟨Finset.mem_erase.mpr ⟨fun h => bar_ne_go (SemLoc.reg.inj h), Finset.mem_filter.mpr ⟨Finset.mem_univ _, by decide⟩⟩,
      Finset.mem_image_of_mem cellOf (Finset.mem_univ x)⟩)

section Terms

variable (IM : Dev nD → S2048x256.Idx → Elt F .f32)

/-- The barrier semaphores put under the round's terms. -/
theorem terms : iprop((bigSep bCells fun g => (semVal g 0 : sProp (Res F))) ∗ bigSep bCells fun g => roundState EB (barSched IM) g 0)
    ⊢ |={Set.univ}=> iprop(∃ κ : GSem nD τ sig → ℕ, bigSep bCells fun g => cellInv EB (barSched IM) (κ g) g) := by
  refine (Rounds.bodies_intro EB (barSched IM) bCells).trans ((inv_alloc_family bCells (Rounds.body EB (barSched IM)) ∅ (E := Set.univ)).trans ?_)
  iintro H
  imod H with ⟨%κ, -, Hinv⟩
  imodintro; iexists κ; iexact Hinv

/-- What the subcores are handed in common, and -/
abbrev common : sProp (Res F) :=
  iprop((∃ κ : GSem nD τ sig → ℕ, bigSep Finset.univ fun x : Place => cellInv EB (barSched IM) (κ (cellOf x)) (cellOf x))
    ∗ bigSep Finset.univ fun x : Place => reached EB (cellOf x) 0)
/-- what each is handed for itself. -/
abbrev own (x : Place) : sProp (Res F) :=
  iprop(atPos EB (cellOf x) 0 ∅ 0 ∗ rights x ∗ cred (tallyAt (cellOf x) (some 0) (grid0.bound 1)))

/-- What is held for good of every place is held of each of some places. -/
theorem some_of_all {I : Type} {R : Place → sProp (Res F)} [BI.Persistent (bigSep Finset.univ R)] [DecidableEq I] (s : Finset I) (f : I → Place) :
    bigSep Finset.univ R ⊢ bigSep s fun i => R (f i) := by
  induction s using Finset.induction_on with
  | empty => rw [bigSep_empty]; exact fun _ _ => trivial
  | insert a s ha ih =>
    rw [SparseCore.bigSep_insert' ha]
    iintro #H
    isplitl
    · iapply (SparseCore.ent (bigSep_elim (Φ := R) (Finset.mem_univ (f a)))); iexact H
    · iapply ih; iexact H

/-- A subcore's kit out of those. -/
theorem kit (x : Place) : iprop(common IM ∗ own x) ⊢ (barKit IM x.1 x.2.1 x.2.2 : sProp (Res F)) := by
  unfold barKit
  iintro ⟨⟨⟨%κ, #Hinv⟩, #Hr⟩, Hat, Htok, Hcred⟩
  isplitr
  · iexists κ
    iapply (some_of_all (R := fun x : Place => cellInv EB (barSched IM) (κ (cellOf x)) (cellOf x)) (Finset.univ : Finset (Fin (grid0.bound 1)))
      fun j => (x.1, x.2.1, j.castLE hsub0))
    iexact Hinv
  isplitl [Htok]; · iexact Htok
  isplitr
  · iapply (some_of_all (R := fun x : Place => reached EB (cellOf x) 0) (Finset.univ : Finset (Fin (grid0.bound 1))) fun j => (x.1, x.2.1, j.castLE hsub0))
    iexact Hr
  isplitl [Hat]; · iexact Hat
  iexact Hcred

/-- Every subcore its kit. -/
theorem kits (s : Finset Place) : iprop(common IM ∗ bigSep s fun x => own x) ⊢ bigSep s fun x : Place => (barKit IM x.1 x.2.1 x.2.2 : sProp (Res F)) := by
  induction s using Finset.induction_on with
  | empty => rw [bigSep_empty, bigSep_empty]; exact sep_elim_right
  | insert a s ha ih =>
    rw [SparseCore.bigSep_insert' ha, SparseCore.bigSep_insert' ha]
    iintro ⟨#H, H1, H2⟩
    isplitl [H1]
    · iapply (kit IM a); isplitr; · iexact H
      iexact H1
    · iapply ih; isplitr; · iexact H
      iexact H2

end Terms

/-! ## Credit for the arrivals -/

/-- So many units one at a time are so many at once. -/
theorem units (g : GSem nD τ sig) (ι : HIx 1) (n : ℕ) : ∑ _ : Fin n, tallyAt g ι 1 = (tallyAt g ι n : CellTallies nD τ sig (HIx 1)) := by
  induction n with
  | zero => rw [tallyAt_zero]; exact Finset.sum_eq_zero fun j _ => j.elim0
  | succ n ih => rw [Fin.sum_univ_castSucc, ih, tallyAt_add]

variable (m : (ℓ : Loc nD τ sig) → Buf (Elt F) ℓ)

/-- The credit for what all the subcores owe is each subcore's credit for the sixteen arrivals at its own semaphore. -/
theorem credit : ((P m).oxCred : sProp (Res F)) ⊢ bigSep Finset.univ fun x : Place => cred (tallyAt (cellOf x) (some 0) (grid0.bound 1)) := by
  unfold SparseCore.Cfg.Pay.oxCred
  rw [SparseCore.Cfg.bigSep_threads (fun thr : Thread nD τ => (cred ((P m).oxFrom 0 thr) : sProp (Res F)))]
  refine sep_elim_right.trans (sep_elim_right.trans ?_)
  rw [bigSep_univ_prod, bigSep_univ_prod (fun x : Place => (cred (tallyAt (cellOf x) (some 0) (grid0.bound 1)) : sProp (Res F)))]
  refine bigSep_mono fun d _ => ?_
  rw [bigSep_univ_prod, bigSep_univ_prod (fun x : Fin τ.nSC × Fin τ.nSub => (cred (tallyAt (cellOf (d, x)) (some 0) (grid0.bound 1)) : sProp (Res F)))]
  refine bigSep_mono fun c _ => ?_
  have owed : ∀ i, (P m).oxFrom 0 (V d c i) = arrivals d c := fun i => by
    rw [show (0 : ℕ) = (0 : Fin 1).val from rfl, (P m).oxFrom_step, (P m).oxFrom_end _ (n := (0 : Fin 1).val + 1) le_rfl, add_zero]; rfl
  dsimp only
  simp only [owed]
  unfold arrivals
  rw [SparseCore.Cfg.cred_finsum, bigSep_univ_comm]
  refine bigSep_mono fun j _ => ?_
  rw [← SparseCore.Cfg.cred_finsum, units]; rfl

/-! ## The launch -/

/-- No thread but a subcore is handed anything for a protocol of its own: not the TensorCore, -/
theorem x_tc (d : Dev nD) : (bigSep Finset.univ fun q : Fin 1 => (P m).x q (SparseCore.T d)) = iprop(emp) := bigSep_univ_of_subsingleton (0 : Fin 1)
/-- not a SparseCore; -/
theorem x_sc (d : Dev nD) (c : Fin τ.nSC) : (bigSep Finset.univ fun q : Fin 1 => (P m).x q (S d c)) = iprop(emp) := bigSep_univ_of_subsingleton (0 : Fin 1)
/-- a subcore is handed its kit. -/
theorem x_vec (d : Dev nD) (c : Fin τ.nSC) (i : Fin τ.nSub) : (bigSep Finset.univ fun q : Fin 1 => (P m).x q (V d c i)) = barKit (image m) d c i :=
  bigSep_univ_of_subsingleton (0 : Fin 1)

/-- Nothing for each of many is nothing. -/
theorem nothing {I : Type} (s : Finset I) : (bigSep s fun _ => iprop(emp)) = (iprop(emp) : sProp (Res F)) := bigSep_emp_const s

/-- From the launch's ghost state, the credit and the free semaphores: the signals' rounds, and every subcore its kit. -/
theorem hu₀ : iprop(ownU (u₀ (F := F)) ∗ (P m).oxCred ∗ (K (F := F)).freeOn (· ∈ bCells))
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp (Res F)) := by
  rw [SparseCore.Cfg.bigSep_threads (fun thr : Thread nD τ => bigSep Finset.univ fun q : Fin 1 => (P m).x q thr)]
  simp only [x_tc, x_sc, x_vec, nothing]
  unfold u₀
  iintro ⟨Hu, Hcred, Hfree⟩
  ihave H := (apart_u₀ _ _) $$ Hu
  icases H with ⟨HH, HB⟩
  imod (Rounds.fund EB (barSched (image m)) bCells bToks) $$ HB with ⟨Hst, #Hr, Hat, Htok⟩
  ihave Hsems := (free_bars (F := F)) $$ Hfree
  imod (terms (image m)) $$ [Hsems Hst] with ⟨%κ, #Hinv⟩
  · isplitl [Hsems] <;> iassumption
  ihave Hcred := (credit m) $$ Hcred
  ihave Hinv' := (Entails.of_eq (over_places (F := F) fun g => cellInv EB (barSched (image m)) (κ g) g)) $$ Hinv
  ihave Hr' := (Entails.of_eq (over_places (F := F) fun g => reached EB g 0)) $$ Hr
  ihave Hat := (Entails.of_eq (over_places (F := F) fun g => atPos EB g 0 ∅ 0)) $$ Hat
  ihave Htok := (Entails.of_eq (rights_dealt (F := F))) $$ Htok
  imodintro
  isplitl [HH]; · iexact HH
  isplitr; · iempintro
  isplitr; · iempintro
  isplitr; · iempintro
  iapply (kits (image m) Finset.univ)
  isplitr
  · isplitl; · iexists κ; iexact Hinv'
    iexact Hr'
  unfold own
  rw [bigSep_sep', bigSep_sep']
  isplitl [Hat]; · iexact Hat
  isplitl [Htok]; · iexact Htok
  iexact Hcred

end Cert.Proof

end
-- ==== Proof.Run.lean ====
/-
  The kernel's whole run, over any float values: the call on the two SparseCores, then the host's reshape of its result.
  Every run ends with the four arguments as they were, the value returned the result reshaped, every semaphore at zero.
-/
module

public import proofs.«01_k».proof.Proof.Start
public import Idealize.ShloMosaic.Lib.StableHlo.Run
public import Idealize.ShloMosaic.Lib.Pipeline.Kit

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.ShloMosaic.ShareLeaves (leaf)
open Idealize.ShloMosaic.StableHlo (wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The first argument, which the kernel does not read. -/
abbrev aLoc (d : Dev nD) : Loc nD τ sig := (SparseCore.T d).loc main_arg0
/-- The value returned. -/
abbrev rLoc (d : Dev nD) : Loc nD τ sig := (SparseCore.T d).loc main_v1

/-! ## The buffers the host holds -/

/-- They are six, listed. -/
theorem host_bufs (d : Dev nD) (W : (b : Ref sig .tc) → Buf (Elt F) ((d.tc : Thread nD τ).loc b)) :
    (unscopedBufs d W : sProp (Res F)) = iprop((aLoc d ↦{fullShare} W main_arg0) ∗ (xLoc d ↦{fullShare} W main_arg1) ∗ (yLoc d ↦{fullShare} W main_arg2)
      ∗ (zLoc d ↦{fullShare} W main_arg3) ∗ (oLoc d ↦{fullShare} W main_v0) ∗ rLoc d ↦{fullShare} W main_v1) := by
  unfold unscopedBufs
  rw [show (Finset.univ.filter fun b : Ref sig .tc => ¬ b.isScoped) = {main_arg0, main_arg1, main_arg2, main_arg3, main_v0, main_v1} by decide,
    SparseCore.bigSep_insert' (by decide), SparseCore.bigSep_insert' (by decide), SparseCore.bigSep_insert' (by decide),
    SparseCore.bigSep_insert' (by decide), SparseCore.bigSep_insert' (by decide), bigSep_singleton]

/-- The call's result, as the host's operation holds it, -/
abbrev oRef : DevRef τ sig := Proc.devRef .tc (main_v0 : Ref sig .tc)
/-- and the value returned. -/
abbrev rRef : DevRef τ sig := Proc.devRef .tc (main_v1 : Ref sig .tc)
/-- Holding those two buffers. -/
theorem two_bufs (d : Dev nD) (W : Valuation τ sig (Elt F)) :
    (StableHlo.held (SparseCore.T d) {oRef, rRef} W : sProp (Res F)) = iprop((oLoc d ↦{fullShare} W oRef) ∗ rLoc d ↦{fullShare} W rRef) := by
  unfold StableHlo.held
  rw [SparseCore.bigSep_insert' (by decide), bigSep_singleton]

/-- The host's reshape, -/
abbrev reshaping : HloOp τ sig (Elt F) := StableHlo.reshape main_v0 main_v1 (rfl : (.f32 : EltTy) = .f32) shapeCasts_S196608x256_S2x3x32x32x32x256
/-- which holds no buffer but those two. -/
theorem reshaping_bufs : (reshaping (F := F)).bufs ⊆ {oRef, rRef} := show ({oRef, rRef} : Finset (DevRef τ sig)) ⊆ {oRef, rRef} from fun _ h => h

variable (m : (ℓ : Loc nD τ sig) → Buf (Elt F) ℓ)

/-- The value returned. -/
def returned (d : Dev nD) : S2x3x32x32x32x256.Idx → Elt F .f32 :=
  shapeCast S2x3x32x32x32x256 (result m d) shapeCasts_S196608x256_S2x3x32x32x32x256

/-- The buffers as the call leaves them. -/
def after (d : Dev nD) : Valuation τ sig (Elt F) := Function.update (fun b => m (d, b)) oRef (result m d)
/-- There the call's result is what it should be, -/
theorem after_out (d : Dev nD) : after m d oRef = result m d := Function.update_self _ _ _
/-- and the value returned is not yet written. -/
theorem after_ret (d : Dev nD) : after m d rRef = m (rLoc d) := Function.update_of_ne (show rRef ≠ oRef by decide) _ _
/-- The reshape leaves the value returned where it should be. -/
theorem reshaped (d : Dev nD) : (reshaping (F := F)).result (after m d) rRef = returned m d := by
  refine (StableHlo.reshape_result main_v0 main_v1 rfl shapeCasts_S196608x256_S2x3x32x32x32x256 _ _ (after m d)).trans ?_
  show shapeCast S2x3x32x32x32x256 (after m d oRef) _ = _
  rw [after_out]; rfl

/-! ## The call's operands and what it brings back -/

/-- The two SparseCores are handed the tables and the result's buffer between them; -/
theorem given (d : Dev nD) : iprop(held m d fullShare ∗ oLoc d ↦{fullShare} m (oLoc d))
    = (bigSep Finset.univ fun c : Fin ((K (F := F)).nCore 0) => (P m).st 0 d c : sProp (Res F)) := by
  rw [out_cores]
  unfold held
  rw [tabs_leaves d 1]
  exact (bigSep_sep' (Finset.univ : Finset (Fin 2)) (fun c => held m d (leaf 1 fullShare c)) fun c => (oLoc d ↦[coreRows c.val]{fullShare} m (oLoc d))).symm

/-- and hand back the tables, the result, and their barrier semaphores at zero. -/
theorem brought (d : Dev nD) : (bigSep Finset.univ fun c : Fin ((K (F := F)).nCore 0) => (P m).dn 0 d c : sProp (Res F))
    = iprop((held m d fullShare ∗ oLoc d ↦{fullShare} result m d) ∗ bigSep Finset.univ fun c : Fin 2 => bars d c) := by
  rw [out_cores]
  unfold held
  rw [tabs_leaves d 1]
  exact (bigSep_sep' (Finset.univ : Finset (Fin 2)) (fun c => iprop(held m d (leaf 1 fullShare c) ∗ oLoc d ↦[coreRows c.val]{fullShare} result m d))
      fun c => bars d c).trans
    (congrArg (fun R => iprop(R ∗ bigSep Finset.univ fun c : Fin 2 => bars d c))
      (bigSep_sep' (Finset.univ : Finset (Fin 2)) (fun c => held m d (leaf 1 fullShare c)) fun c => (oLoc d ↦[coreRows c.val]{fullShare} result m d)))

/-- What the run leaves: the arguments as they were, the value returned, the barrier semaphores at zero. -/
abbrev FIN (d : Dev nD) : sProp (Res F) :=
  iprop((aLoc d ↦{fullShare} m (aLoc d)) ∗ held m d fullShare ∗ (rLoc d ↦{fullShare} returned m d) ∗ bigSep Finset.univ fun c : Fin 2 => bars d c)

section Host

variable [FloatOps F] [∀ e, Nonempty (Elt F e)] (ρ : Dev nD → PrngReg)

/-- The host's run: the call, then the reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs D) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [host_bufs]
  simp only [main, wp_bind, wp_pure]
  iintro ⟨#Hctx, Hst, ⟨Hb, ⟨Ha, Hx, Hy, Hz, Ho, Hr⟩, Hts, -⟩, -⟩
  iapply ((K (F := F)).wp_run D 𝒱 (EH := EH) (P := P m) κ d 0) $$ [Hst Ha Hx Hy Hz Ho Hr Hb Hts]
  isplitr; · iexact Hctx
  isplitl [Hst]; · iexact Hst
  isplitl [Hx Hy Hz Ho]
  · iapply (Entails.of_eq (given m d))
    isplitr [Ho]; swap; · iexact Ho
    isplitl [Hx]; · iexact Hx
    isplitl [Hy]; · iexact Hy
    iexact Hz
  iintro ⟨Hst, Hdn⟩
  ihave Hdn := (Entails.of_eq (brought m d)) $$ Hdn
  icases Hdn with ⟨⟨Ht, Ho⟩, Hbars⟩
  iapply (wp_hlo_within 𝒱 (SparseCore.T d) none Set.univ (op := reshaping) (S := {oRef, rRef}) reshaping_bufs (V := after m d)) $$ [Hb Ho Hr]
  · isplitl [Hb]; · iexact Hb
    rw [two_bufs, after_out, after_ret]
    isplitl [Ho]; · iexact Ho
    iexact Hr
  iintro ⟨Hb, Hheld⟩
  ihave Hheld := (Entails.of_eq (two_bufs (F := F) d _)) $$ Hheld
  icases Hheld with ⟨-, Hr⟩
  rw [wp_ret]; imodintro; imodintro
  isplitl [Hst]; · iexact Hst
  isplitr [Hb Hts]
  · isplitl [Ha]; · iexact Ha
    isplitl [Ht]; · iexact Ht
    isplitl [Hr]; · iapply (Entails.of_eq (congrArg (fun f => (rLoc d ↦{fullShare} f : sProp (Res F))) (reshaped m d))); iexact Hr
    iexact Hbars
  isplitl [Hb] <;> iassumption

end Host

/-! ## What a run's end is read for -/

/-- The end as the claims read it, on one device. -/
def fq (d : Dev nD) (s' : Phys nD τ sig (Elt F)) : Prop :=
  (s'.mem.mem (aLoc d) = m (aLoc d) ∧ s'.mem.mem (xLoc d) = m (xLoc d) ∧ s'.mem.mem (yLoc d) = m (yLoc d) ∧ s'.mem.mem (zLoc d) = m (zLoc d)
    ∧ s'.mem.mem (rLoc d) = returned m d) ∧ ∀ (c : Fin τ.nSC) (i : Fin τ.nSub), s'.mem.sem (barCell d c i) = 0

/-- A buffer held whole is in the memory what it is held as. -/
theorem reads (ℓ : Loc nD τ sig) (f : Buf (Elt F) ℓ) (s' : Phys nD τ sig (Elt F)) : iprop((ℓ ↦{fullShare} f) ∗ SI s') ⊢ (⌜s'.mem.mem ℓ = f⌝ : sProp (Res F)) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

/-- What the run leaves says how it ends. -/
theorem hfin (d : Dev nD) (s' : Phys nD τ sig (Elt F)) : iprop(FIN m d ∗ SI s') ⊢ (⌜fq m d s'⌝ : sProp (Res F)) := fun w hw =>
  ⟨⟨((sep_mono_left sep_elim_left).trans (reads _ _ s')) w hw,
    ((sep_mono_left (sep_elim_right.trans (sep_elim_left.trans sep_elim_left))).trans (reads _ _ s')) w hw,
    ((sep_mono_left (sep_elim_right.trans (sep_elim_left.trans (sep_elim_right.trans sep_elim_left)))).trans (reads _ _ s')) w hw,
    ((sep_mono_left (sep_elim_right.trans (sep_elim_left.trans (sep_elim_right.trans sep_elim_right)))).trans (reads _ _ s')) w hw,
    ((sep_mono_left (sep_elim_right.trans (sep_elim_right.trans sep_elim_left))).trans (reads _ _ s')) w hw⟩,
    fun c i => ((sep_mono_left (sep_elim_right.trans (sep_elim_right.trans (sep_elim_right.trans
      ((SparseCore.ent (bigSep_elim (Finset.mem_univ c))).trans (SparseCore.ent (bigSep_elim (Finset.mem_univ i)))))))).trans
      (SparseCore.Cfg.semVal_zero_read _ s')) w hw⟩

/-- Every barrier semaphore ends at zero. -/
theorem hA (s' : Phys nD τ sig (Elt F)) (h : ∀ d, fq m d s') (g : GSem nD τ sig) (hg : g ∈ bCells) : s'.mem.sem g = 0 := by
  obtain ⟨⟨d, c, i⟩, -, rfl⟩ := Finset.mem_image.mp hg
  exact (h d).2 c i

/-- How every run ends. -/
def Ends : PUnit × MemSt nD τ sig (Elt F) → Prop := fun r =>
  (∀ d : Dev nD, r.2.mem (aLoc d) = m (aLoc d) ∧ r.2.mem (xLoc d) = m (xLoc d) ∧ r.2.mem (yLoc d) = m (yLoc d) ∧ r.2.mem (zLoc d) = m (zLoc d)
    ∧ r.2.mem (rLoc d) = returned m d) ∧ r.2.sem = fun _ => 0

/-- The run, over any float values: from any memory, every run ends so. -/
theorem run_main [FloatOps F] [∀ e, Nonempty (Elt F e)] (ρ : Dev nD → PrngReg) :
    θ_run (Cert.KernelIdeal.defs (F := F)) (Cert.KernelIdeal.threads (F := F)) ⟨m, fun _ => 0, ρ⟩ (Ends m) :=
  SparseCore.Cfg.θ_run_sc_quiescent (K := K (F := F)) (D := D) (𝒱 := 𝒱) (EH := EH) (P := P m) (hA := hA m) facts v₀
    (fun q hq => match q with | 0 => nomatch hq)
    (fun q _ => match q with | 0 => tileObl m)
    (fun q _ => match q with | 0 => vecSplit m)
    m ρ main (fun _ => iprop(emp)) (FIN m) (u₀ (F := F)) (hu₀ m) (hmain m ρ) (fq m) (hfin m) (Ends m) (fun _ h hz => ⟨fun d => (h d).1, hz⟩)

end Cert.Proof

end
-- ==== Proof.Value.lean ====
/-
  The value: what the reference computes, read at a place, is the table entry that the kernel's result, reshaped, holds
  there. The reference takes every row of each table (a look-up that would fill in for a row out of range; none is),
  spreads the three over the grid, each along its own axis, stacks them, and copies the stack for each member of the batch.
-/
module

public import proofs.«01_k».proof.Proof.Setup
public import proofs.«01_k».proof.Proof.Gen.ReferenceIdeal.Run
public import proofs.«01_k».proof.Proof.Gen.Reference.Run
public import Idealize.ShloMosaic.Lib.Routing.Ops
public import Idealize.ShloMosaic.Lib.ReduceAll

@[expose] public section

noncomputable section

namespace Cert.Proof

open Cert.ReferenceIdeal Cert.ReferenceIdeal.Gen
open Idealize.ShloMosaic
open Idealize.ShloMosaic.ValueIdx (select_one)

/-! ## The look-up of every row -/

/-- The row numbers looked up, a negative one counted from the end: none is negative. -/
def rowNos : IVec S32 32 :=
  select (cmpi .slt (iotaInDim S32 32 0) (broadcastInDim S32 ![] bcast_S_S32 (constantI S_ 32 0#32)))
    (addi (iotaInDim S32 32 0) (broadcastInDim S32 ![] bcast_S_S32 (constantI S_ 32 32#32))) (iotaInDim S32 32 0)

/-- One row number, by trial. -/
theorem rowNo : ∀ i : Fin 32, Scalar.select (Scalar.cmpi .slt (BitVec.ofNat 32 i.val) 0#32) (BitVec.ofNat 32 i.val + 32#32) (BitVec.ofNat 32 i.val) = BitVec.ofNat 32 i.val := by
  decide
/-- They are 0 to 31. -/
theorem rowNos_eq : rowNos = iotaInDim S32 32 0 := funext fun y => rowNo (y 0)

/-- The same as a column. -/
def rowCol : IVec S32x1 32 := broadcastInDim S32x1 ![0] bcast_S32_S32x1_0 rowNos
/-- Its entries. -/
theorem rowCol_apply (y : S32x1.Idx) : rowCol y = BitVec.ofNat 32 (y 0).val := by
  unfold rowCol; rw [rowNos_eq]; rfl

/-- Whether each is a row of the table: -/
def inside : IVec S32 1 :=
  Host.reduce IntOp.andi (andi (cmpi .sge rowCol (broadcastInDim S32x1 ![] bcast_S_S32x1 (constantI S_ 32 0#32)))
    (cmpi .sle rowCol (broadcastInDim S32x1 ![0, 1] bcast_S1x1_S32x1_0_1 (broadcastInDim S1x1 ![1] bcast_S1_S1x1_1 (constantI S1 32 31#32)))))
    (constantI S_ 1 1#1) reducesTo_S32x1_S32_d1 h_S_
/-- one number, by trial; -/
theorem inRange : ∀ i : Fin 32, IntOp.andi (Scalar.cmpi .sge (BitVec.ofNat 32 i.val) 0#32) (Scalar.cmpi .sle (BitVec.ofNat 32 i.val) 31#32) = 1#1 := by
  decide
/-- all are. -/
theorem inside_apply (y : S32.Idx) : inside y = 1#1 := by
  unfold inside
  refine Host.reduce_andi_one _ _ _ _ y rfl fun i => ?_
  show IntOp.andi (Scalar.cmpi .sge (rowCol i) 0#32) (Scalar.cmpi .sle (rowCol i) 31#32) = 1#1
  rw [rowCol_apply]
  exact inRange (i 0)

variable {F : FTy → Type} [FloatOps F]

/-- The look-up, -/
def lookUp (x : S32x256.Idx → Elt F .f32) : S32x256.Idx → Elt F .f32 :=
  select (broadcastInDim S32x256 ![0] bcast_S32_S32x256_0 inside)
    (Host.gather gather_S32x256_S32x1_S32x256_1_0_n_n_0_1_1256 x rowCol)
    (broadcastInDim S32x256 ![] bcast_S_S32x256 (constant S_ .f32 0x7FC00000#32))

/-- which gives the table back. -/
theorem lookUp_eq (x : S32x256.Idx → Elt F .f32) : lookUp x = x := by
  funext y
  show Scalar.select (inside _) _ _ = _
  rw [inside_apply, select_one, eq_ix2 y]
  exact Routing.gather_row (gather_S32x256_S32x1_S32x256_1_0_n_n_0_1_1256) rfl rfl rfl rfl rfl x rowCol (y 0) (y 1) (y 0) (rowCol_apply _) (by decide)

/-! ## The spread -/

/-- The three tables spread over the grid, stacked, and copied for each member of the batch. -/
def spread (X Y Z : S32x256.Idx → Elt F .f32) : S2x3x32x32x32x256.Idx → Elt F .f32 :=
  broadcastInDim S2x3x32x32x32x256 ![0, 1, 2, 3, 4, 5] bcast_S1x3x32x32x32x256_S2x3x32x32x32x256_0_1_2_3_4_5
    (broadcastInDim S1x3x32x32x32x256 ![1, 2, 3, 4, 5] bcast_S3x32x32x32x256_S1x3x32x32x32x256_1_2_3_4_5
      (concatenate S3x32x32x32x256 0
        [⟨S1x32x32x32x256, broadcastInDim S1x32x32x32x256 ![1, 2, 3, 4] bcast_S32x32x32x256_S1x32x32x32x256_1_2_3_4
            (broadcastInDim S32x32x32x256 ![0, 1, 2, 3] bcast_S32x1x1x256_S32x32x32x256_0_1_2_3
              (broadcastInDim S32x1x1x256 ![0, 3] bcast_S32x256_S32x1x1x256_0_3 X))⟩,
          ⟨S1x32x32x32x256, broadcastInDim S1x32x32x32x256 ![1, 2, 3, 4] bcast_S32x32x32x256_S1x32x32x32x256_1_2_3_4
            (broadcastInDim S32x32x32x256 ![0, 1, 2, 3] bcast_S1x32x1x256_S32x32x32x256_0_1_2_3
              (broadcastInDim S1x32x1x256 ![1, 3] bcast_S32x256_S1x32x1x256_1_3 Y))⟩,
          ⟨S1x32x32x32x256, broadcastInDim S1x32x32x32x256 ![1, 2, 3, 4] bcast_S32x32x32x256_S1x32x32x32x256_1_2_3_4
            (broadcastInDim S32x32x32x256 ![0, 1, 2, 3] bcast_S1x1x32x256_S32x32x32x256_0_1_2_3
              (broadcastInDim S1x1x32x256 ![2, 3] bcast_S32x256_S1x1x32x256_2_3 Z))⟩]
        concatenates_S1x32x32x32x256_S1x32x32x32x256_S1x32x32x32x256_S3x32x32x32x256_d0))

/-- The reference's value is the spread of the three look-ups. -/
theorem ref_spread (m : (ℓ : Loc nD τ sig) → Buf (Elt F) ℓ) (c : Dev nD) :
    Value.res_main_v17 m c = spread (lookUp (m ((c.tc : Thread nD τ).loc main_arg1))) (lookUp (m ((c.tc : Thread nD τ).loc main_arg2)))
      (lookUp (m ((c.tc : Thread nD τ).loc main_arg3))) := rfl

/-- The first table spread along the first axis, -/
theorem along_x (X : S32x256.Idx → Elt F .f32) (y : S1x32x32x32x256.Idx) :
    broadcastInDim S1x32x32x32x256 ![1, 2, 3, 4] bcast_S32x32x32x256_S1x32x32x32x256_1_2_3_4
      (broadcastInDim S32x32x32x256 ![0, 1, 2, 3] bcast_S32x1x1x256_S32x32x32x256_0_1_2_3
        (broadcastInDim S32x1x1x256 ![0, 3] bcast_S32x256_S32x1x1x256_0_3 X)) y = tab X (y 1).val (y 4).val :=
  Eq.trans (congrArg X (funext fun a => match a with | 0 => rfl | 1 => rfl)) (tab_idx X (ix2 (y 1) (y 4))).symm
/-- the second along the second, -/
theorem along_y (Y : S32x256.Idx → Elt F .f32) (y : S1x32x32x32x256.Idx) :
    broadcastInDim S1x32x32x32x256 ![1, 2, 3, 4] bcast_S32x32x32x256_S1x32x32x32x256_1_2_3_4
      (broadcastInDim S32x32x32x256 ![0, 1, 2, 3] bcast_S1x32x1x256_S32x32x32x256_0_1_2_3
        (broadcastInDim S1x32x1x256 ![1, 3] bcast_S32x256_S1x32x1x256_1_3 Y)) y = tab Y (y 2).val (y 4).val :=
  Eq.trans (congrArg Y (funext fun a => match a with | 0 => rfl | 1 => rfl)) (tab_idx Y (ix2 (y 2) (y 4))).symm
/-- the third along the third. -/
theorem along_z (Z : S32x256.Idx → Elt F .f32) (y : S1x32x32x32x256.Idx) :
    broadcastInDim S1x32x32x32x256 ![1, 2, 3, 4] bcast_S32x32x32x256_S1x32x32x32x256_1_2_3_4
      (broadcastInDim S32x32x32x256 ![0, 1, 2, 3] bcast_S1x1x32x256_S32x32x32x256_0_1_2_3
        (broadcastInDim S1x1x32x256 ![2, 3] bcast_S32x256_S1x1x32x256_2_3 Z)) y = tab Z (y 3).val (y 4).val :=
  Eq.trans (congrArg Z (funext fun a => match a with | 0 => rfl | 1 => rfl)) (tab_idx Z (ix2 (y 3) (y 4))).symm

/-- The place in a table's spread below a place of the value. -/
abbrev below (y : S2x3x32x32x32x256.Idx) : S1x32x32x32x256.Idx := ix5 0 (y 2) (y 3) (y 4) (y 5)

/-- The place in the stack of the three spreads. -/
abbrev stacked (y : S2x3x32x32x32x256.Idx) : S3x32x32x32x256.Idx := ix5 (y 1) (y 2) (y 3) (y 4) (y 5)
/-- The place in that stack once the leading axis is put before it. -/
abbrev headed (y : S2x3x32x32x32x256.Idx) : S1x3x32x32x32x256.Idx := fun a => match a with
  | 0 => (0 : Fin 1) | 1 => y 1 | 2 => y 2 | 3 => y 3 | 4 => y 4 | 5 => y 5

/-- Off the stack's axis that place is the same. -/
theorem below_same (y : S2x3x32x32x32x256.Idx) (b : Fin 5) (hb : b ≠ 0) : (below y b).val = (stacked y b).val := by
  match b, hb with
  | 0, hb => exact absurd rfl hb
  | 1, _ => rfl
  | 2, _ => rfl
  | 3, _ => rfl
  | 4, _ => rfl

/-- A stack of three read at a place. -/
theorem stack_apply (f g k : S1x32x32x32x256.Idx → Elt F .f32) (y : S2x3x32x32x32x256.Idx) :
    concatenate S3x32x32x32x256 0 [⟨S1x32x32x32x256, f⟩, ⟨S1x32x32x32x256, g⟩, ⟨S1x32x32x32x256, k⟩]
      concatenates_S1x32x32x32x256_S1x32x32x32x256_S1x32x32x32x256_S3x32x32x32x256_d0 (stacked y)
      = if (y 1).val = 0 then f (below y) else if (y 1).val = 1 then g (below y) else k (below y) := by
  have h1 : (y 1).val < 3 := (y 1).isLt
  split
  · next h =>
    refine concatenate_apply_piece (t := S3x32x32x32x256) (0 : Fin 5) _ _ (stacked y) 0 ?_ S1x32x32x32x256 f ?_ ?_ 0 ?_ (below y) ?_ ?_
    · show 0 < 3; omega
    · rfl
    · rfl
    · rfl
    · exact below_same y
    · show 0 + 0 = (y 1).val; omega
  split
  · next h =>
    refine concatenate_apply_piece (t := S3x32x32x32x256) (0 : Fin 5) _ _ (stacked y) 1 ?_ S1x32x32x32x256 g ?_ ?_ 1 ?_ (below y) ?_ ?_
    · show 1 < 3; omega
    · rfl
    · rfl
    · rfl
    · exact below_same y
    · show 1 + 0 = (y 1).val; omega
  · show _ = k (below y)
    refine concatenate_apply_piece (t := S3x32x32x32x256) (0 : Fin 5) _ _ (stacked y) 2 ?_ S1x32x32x32x256 k ?_ ?_ 2 ?_ (below y) ?_ ?_
    · show 2 < 3; omega
    · rfl
    · rfl
    · rfl
    · exact below_same y
    · show 2 + 0 = (y 1).val; omega

/-- The spread read at a place. -/
theorem spread_apply (X Y Z : S32x256.Idx → Elt F .f32) (y : S2x3x32x32x32x256.Idx) :
    spread X Y Z y = if (y 1).val = 0 then tab X (y 2).val (y 5).val else if (y 1).val = 1 then tab Y (y 3).val (y 5).val
      else tab Z (y 4).val (y 5).val := by
  unfold spread
  refine (broadcastInDim_apply _ _ _ y (headed y)
    fun a => by match a with | 0 => rfl | 1 => rfl | 2 => rfl | 3 => rfl | 4 => rfl | 5 => rfl).trans ?_
  refine (broadcastInDim_apply _ _ _ (headed y) (stacked y)
    fun a => by match a with | 0 => rfl | 1 => rfl | 2 => rfl | 3 => rfl | 4 => rfl).trans ?_
  rw [stack_apply, along_x, along_y, along_z]
  rfl

/-! ## The kernel's result, reshaped -/

/-- The row of the kernel's result that a place of the value is in. -/
def rowOf (y : S2x3x32x32x32x256.Idx) : ℕ := ((((y 0).val * 3 + (y 1).val) * 32 + (y 2).val) * 32 + (y 3).val) * 32 + (y 4).val
/-- It is a row of the result. -/
theorem rowOf_lt (y : S2x3x32x32x32x256.Idx) : rowOf y < 196608 := by
  have h0 : (y 0).val < 2 := (y 0).isLt
  have h1 : (y 1).val < 3 := (y 1).isLt
  have h2 : (y 2).val < 32 := (y 2).isLt
  have h3 : (y 3).val < 32 := (y 3).isLt
  have h4 : (y 4).val < 32 := (y 4).isLt
  unfold rowOf; omega

/-- The place of the kernel's result that the reshape takes a place of the value from. -/
theorem reshape_from (y : S2x3x32x32x32x256.Idx) :
    (Cert.KernelIdeal.S196608x256.rowMajor (ix2 ⟨rowOf y, rowOf_lt y⟩ (y 5))).val = (S2x3x32x32x32x256.rowMajor y).val := by
  rw [Shape.rowMajor_val_two, Shape.rowMajor_val_succ, Shape.rowMajor_val_five]
  show rowOf y * 256 + (y 5).val = (y 0).val * Shape.numel ⟨5, ![3, 32, 32, 32, 256]⟩ + (((((y 1).val * 32 + (y 2).val) * 32 + (y 3).val) * 32 + (y 4).val) * 256 + (y 5).val)
  rw [show Shape.numel ⟨5, ![3, 32, 32, 32, 256]⟩ = 25165824 by decide]
  unfold rowOf; omega

/-- The kernel's result, reshaped, is the spread of the three tables. -/
theorem reshaped_spread (X Y Z : S32x256.Idx → Elt F .f32) (h : Cert.KernelIdeal.S196608x256.ShapeCasts S2x3x32x32x32x256) :
    shapeCast S2x3x32x32x32x256 (outG X Y Z) h = spread X Y Z := by
  funext y
  have h1 : (y 1).val < 3 := (y 1).isLt
  have h2 : (y 2).val < 32 := (y 2).isLt
  have h3 : (y 3).val < 32 := (y 3).isLt
  have h4 : (y 4).val < 32 := (y 4).isLt
  have hb : rowOf y / 32768 = (y 0).val * 3 + (y 1).val := by unfold rowOf; omega
  have hx : rowOf y / 1024 = ((y 0).val * 3 + (y 1).val) * 32 + (y 2).val := by unfold rowOf; omega
  have hy : rowOf y / 32 = (((y 0).val * 3 + (y 1).val) * 32 + (y 2).val) * 32 + (y 3).val := by unfold rowOf; omega
  rw [shapeCast_apply _ h y (ix2 ⟨rowOf y, rowOf_lt y⟩ (y 5)) (reshape_from y), spread_apply]
  show outRow X Y Z (rowOf y) (y 5).val = _
  unfold outRow
  rw [hb, show ((y 0).val * 3 + (y 1).val) % 3 = (y 1).val by omega]
  split
  · exact tab_mod X _ (by omega)
  split
  · exact tab_mod Y _ (by omega)
  · exact tab_mod Z _ (by unfold rowOf; omega)

/-- So is the spread of the three tables looked up. -/
theorem reshaped_lookUp (X Y Z : S32x256.Idx → Elt F .f32) (h : Cert.KernelIdeal.S196608x256.ShapeCasts S2x3x32x32x32x256) :
    spread (lookUp X) (lookUp Y) (lookUp Z) = shapeCast S2x3x32x32x32x256 (outG X Y Z) h := by
  rw [lookUp_eq, lookUp_eq, lookUp_eq, reshaped_spread]

/-- The reference's value, over any floats, is the kernel's result, reshaped. -/
theorem ref_value (m : (ℓ : Loc nD τ sig) → Buf (Elt F) ℓ) (c : Dev nD) (h : Cert.KernelIdeal.S196608x256.ShapeCasts S2x3x32x32x32x256) :
    Value.res_main_v17 m c = shapeCast S2x3x32x32x32x256 (outG (m ((c.tc : Thread nD τ).loc main_arg1)) (m ((c.tc : Thread nD τ).loc main_arg2))
      (m ((c.tc : Thread nD τ).loc main_arg3))) h :=
  (ref_spread m c).trans (reshaped_lookUp _ _ _ h)

/-- The reference as printed has the same value. -/
theorem printed_value (m : (ℓ : Loc Cert.Reference.nD Cert.Reference.τ Cert.Reference.sig) → Buf (Elt F) ℓ) (c : Dev Cert.Reference.nD)
    (h : Cert.KernelIdeal.S196608x256.ShapeCasts S2x3x32x32x32x256) :
    Cert.Reference.Value.res_main_v17 m c = shapeCast S2x3x32x32x32x256
      (outG (m ((c.tc : Thread Cert.Reference.nD Cert.Reference.τ).loc Cert.Reference.main_arg1))
        (m ((c.tc : Thread Cert.Reference.nD Cert.Reference.τ).loc Cert.Reference.main_arg2))
        (m ((c.tc : Thread Cert.Reference.nD Cert.Reference.τ).loc Cert.Reference.main_arg3))) h :=
  Eq.trans (b := spread (lookUp _) (lookUp _) (lookUp _)) rfl (reshaped_lookUp _ _ _ h)

end Cert.Proof

end
-- ==== Proof.lean ====
/-
  The proof of the certificate's claims: the kernel's run, proved once over any float values, gives both of its frames and
  its side of both value claims; the reference's run gives the rest, its value being the kernel's result, reshaped.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel's frame: it runs, its arguments end unchanged, every semaphore ends at zero. -/
theorem frame_kernel : Cert.quiescent_Kernel := fun m ρ _ =>
  (θ_run Cert.KernelIdeal.defs _ _).mono (fun _ h => ⟨fun c => ⟨(h.1 c).1, (h.1 c).2.1, (h.1 c).2.2.1, (h.1 c).2.2.2.1⟩, h.2⟩)
    (run_main (F := Bits) m ρ)

/-- The idealized kernel's. -/
theorem frame_kernelIdeal : Cert.quiescent_KernelIdeal := fun m ρ _ =>
  (θ_run Cert.KernelIdeal.defs _ _).mono (fun _ h => ⟨fun c => ⟨(h.1 c).1, (h.1 c).2.1, (h.1 c).2.2.1, (h.1 c).2.2.2.1⟩, h.2⟩)
    (run_main (F := Ideal) m ρ)

/-- The idealized reference's. -/
theorem frame_refIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's. -/
theorem frame_ref : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- The idealized kernel and reference end with the same value. -/
theorem algebraic : Cert.algebraic_KernelIdeal_ReferenceIdeal := fun m g m' g' _ hm =>
  ⟨returned m,
    (θ_run Cert.KernelIdeal.defs _ _).mono
      (fun _ h c => ⟨(h.1 c).2.2.2.2, (h.1 c).1, (h.1 c).2.1, (h.1 c).2.2.1, (h.1 c).2.2.2.1⟩) (run_main (F := Ideal) m g),
    (θ_run Cert.ReferenceIdeal.defs _ _).mono
      (fun _ h c => ⟨(h c).1.trans ((ref_value m' c _).trans (by rw [(hm c).2.1, (hm c).2.2.1, (hm c).2.2.2]; rfl)), (h c).2⟩)
      (Cert.ReferenceIdeal.Value.run (F := Ideal) m' g')⟩

/-- The kernel and the reference end with the same bits. -/
theorem bitexact : Cert.bitexact_Kernel_Reference := fun m g m' g' _ hm =>
  ⟨returned (F := Bits) m,
    (θ_run Cert.KernelIdeal.defs _ _).mono
      (fun _ h c => ⟨(h.1 c).2.2.2.2, (h.1 c).1, (h.1 c).2.1, (h.1 c).2.2.1, (h.1 c).2.2.2.1⟩) (run_main (F := Bits) m g),
    (θ_run Cert.Reference.defs _ _).mono
      (fun _ h c => ⟨(h c).1.trans ((printed_value m' c _).trans (by rw [(hm c).2.1, (hm c).2.2.1, (hm c).2.2.2]; rfl)), (h c).2⟩)
      (Cert.Reference.Value.run (F := Bits) m' g')⟩

/-- Everything claimed. -/
theorem claim : Cert.Claim :=
  ⟨Cert.Kernel.Gen.facts, Cert.KernelIdeal.Gen.facts, Cert.ReferenceIdeal.Gen.facts, Cert.Reference.Gen.facts,
    frame_kernel, frame_kernelIdeal, frame_refIdeal, frame_ref, trivial, algebraic, bitexact⟩

end Cert.Proof

end
